-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Around (m : (ℓ : Loc Cert.Around.nD Cert.Around.τ Cert.Around.sig) → Buf (Elt Bits) ℓ) : Prop :=
  True

def Pre_AroundIdeal (m : (ℓ : Loc Cert.AroundIdeal.nD Cert.AroundIdeal.τ Cert.AroundIdeal.sig) → Buf (Elt Ideal) ℓ) : Prop :=
  True

def Pre_AroundRefIdeal (m : (ℓ : Loc Cert.AroundRefIdeal.nD Cert.AroundRefIdeal.τ Cert.AroundRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8))
      ∧ r.2.sem = fun _ => 0)

def quiescent_Around [hAround : Cert.Around.Facts] : Prop :=
  ∀ (m : (ℓ : Loc Cert.Around.nD Cert.Around.τ Cert.Around.sig) → Buf (Elt Bits) ℓ) (g : Dev Cert.Around.nD → PrngReg), Pre_Around m →
    θ_run (Cert.Around.defs (F := Bits)) (onTc (τ := Cert.Around.τ) (Cert.Around.main (F := Bits))) ⟨m, fun _ => 0, g⟩ (fun r => (∀ c : Dev Cert.Around.nD,
      r.2.mem ((c.tc : Thread Cert.Around.nD Cert.Around.τ).loc Cert.Around.main_arg0) = m ((c.tc : Thread Cert.Around.nD Cert.Around.τ).loc Cert.Around.main_arg0)
      ∧ r.2.mem ((c.tc : Thread Cert.Around.nD Cert.Around.τ).loc Cert.Around.main_arg1) = m ((c.tc : Thread Cert.Around.nD Cert.Around.τ).loc Cert.Around.main_arg1)
      ∧ r.2.mem ((c.tc : Thread Cert.Around.nD Cert.Around.τ).loc Cert.Around.main_arg2) = m ((c.tc : Thread Cert.Around.nD Cert.Around.τ).loc Cert.Around.main_arg2)
      ∧ r.2.mem ((c.tc : Thread Cert.Around.nD Cert.Around.τ).loc Cert.Around.main_arg3) = m ((c.tc : Thread Cert.Around.nD Cert.Around.τ).loc Cert.Around.main_arg3)
      ∧ r.2.mem ((c.tc : Thread Cert.Around.nD Cert.Around.τ).loc Cert.Around.main_arg4) = m ((c.tc : Thread Cert.Around.nD Cert.Around.τ).loc Cert.Around.main_arg4)
      ∧ r.2.mem ((c.tc : Thread Cert.Around.nD Cert.Around.τ).loc Cert.Around.main_arg5) = m ((c.tc : Thread Cert.Around.nD Cert.Around.τ).loc Cert.Around.main_arg5)
      ∧ r.2.mem ((c.tc : Thread Cert.Around.nD Cert.Around.τ).loc Cert.Around.main_arg6) = m ((c.tc : Thread Cert.Around.nD Cert.Around.τ).loc Cert.Around.main_arg6)
      ∧ r.2.mem ((c.tc : Thread Cert.Around.nD Cert.Around.τ).loc Cert.Around.main_arg7) = m ((c.tc : Thread Cert.Around.nD Cert.Around.τ).loc Cert.Around.main_arg7)
      ∧ r.2.mem ((c.tc : Thread Cert.Around.nD Cert.Around.τ).loc Cert.Around.main_arg8) = m ((c.tc : Thread Cert.Around.nD Cert.Around.τ).loc Cert.Around.main_arg8)
      ∧ r.2.mem ((c.tc : Thread Cert.Around.nD Cert.Around.τ).loc Cert.Around.main_arg9) = m ((c.tc : Thread Cert.Around.nD Cert.Around.τ).loc Cert.Around.main_arg9)
      ∧ r.2.mem ((c.tc : Thread Cert.Around.nD Cert.Around.τ).loc Cert.Around.main_arg10) = m ((c.tc : Thread Cert.Around.nD Cert.Around.τ).loc Cert.Around.main_arg10)
      ∧ r.2.mem ((c.tc : Thread Cert.Around.nD Cert.Around.τ).loc Cert.Around.main_arg11) = m ((c.tc : Thread Cert.Around.nD Cert.Around.τ).loc Cert.Around.main_arg11)
      ∧ r.2.mem ((c.tc : Thread Cert.Around.nD Cert.Around.τ).loc Cert.Around.main_arg12) = m ((c.tc : Thread Cert.Around.nD Cert.Around.τ).loc Cert.Around.main_arg12)
      ∧ r.2.mem ((c.tc : Thread Cert.Around.nD Cert.Around.τ).loc Cert.Around.main_arg13) = m ((c.tc : Thread Cert.Around.nD Cert.Around.τ).loc Cert.Around.main_arg13)
      ∧ r.2.mem ((c.tc : Thread Cert.Around.nD Cert.Around.τ).loc Cert.Around.main_arg14) = m ((c.tc : Thread Cert.Around.nD Cert.Around.τ).loc Cert.Around.main_arg14)
      ∧ r.2.mem ((c.tc : Thread Cert.Around.nD Cert.Around.τ).loc Cert.Around.main_arg15) = m ((c.tc : Thread Cert.Around.nD Cert.Around.τ).loc Cert.Around.main_arg15)
      ∧ r.2.mem ((c.tc : Thread Cert.Around.nD Cert.Around.τ).loc Cert.Around.main_arg16) = m ((c.tc : Thread Cert.Around.nD Cert.Around.τ).loc Cert.Around.main_arg16))
      ∧ r.2.sem = fun _ => 0)

def quiescent_AroundIdeal [hAroundIdeal : Cert.AroundIdeal.Facts] : Prop :=
  ∀ (m : (ℓ : Loc Cert.AroundIdeal.nD Cert.AroundIdeal.τ Cert.AroundIdeal.sig) → Buf (Elt Ideal) ℓ) (g : Dev Cert.AroundIdeal.nD → PrngReg), Pre_AroundIdeal m →
    θ_run (Cert.AroundIdeal.defs (F := Ideal)) (onTc (τ := Cert.AroundIdeal.τ) (Cert.AroundIdeal.main (F := Ideal))) ⟨m, fun _ => 0, g⟩ (fun r => (∀ c : Dev Cert.AroundIdeal.nD,
      r.2.mem ((c.tc : Thread Cert.AroundIdeal.nD Cert.AroundIdeal.τ).loc Cert.AroundIdeal.main_arg0) = m ((c.tc : Thread Cert.AroundIdeal.nD Cert.AroundIdeal.τ).loc Cert.AroundIdeal.main_arg0)
      ∧ r.2.mem ((c.tc : Thread Cert.AroundIdeal.nD Cert.AroundIdeal.τ).loc Cert.AroundIdeal.main_arg1) = m ((c.tc : Thread Cert.AroundIdeal.nD Cert.AroundIdeal.τ).loc Cert.AroundIdeal.main_arg1)
      ∧ r.2.mem ((c.tc : Thread Cert.AroundIdeal.nD Cert.AroundIdeal.τ).loc Cert.AroundIdeal.main_arg2) = m ((c.tc : Thread Cert.AroundIdeal.nD Cert.AroundIdeal.τ).loc Cert.AroundIdeal.main_arg2)
      ∧ r.2.mem ((c.tc : Thread Cert.AroundIdeal.nD Cert.AroundIdeal.τ).loc Cert.AroundIdeal.main_arg3) = m ((c.tc : Thread Cert.AroundIdeal.nD Cert.AroundIdeal.τ).loc Cert.AroundIdeal.main_arg3)
      ∧ r.2.mem ((c.tc : Thread Cert.AroundIdeal.nD Cert.AroundIdeal.τ).loc Cert.AroundIdeal.main_arg4) = m ((c.tc : Thread Cert.AroundIdeal.nD Cert.AroundIdeal.τ).loc Cert.AroundIdeal.main_arg4)
      ∧ r.2.mem ((c.tc : Thread Cert.AroundIdeal.nD Cert.AroundIdeal.τ).loc Cert.AroundIdeal.main_arg5) = m ((c.tc : Thread Cert.AroundIdeal.nD Cert.AroundIdeal.τ).loc Cert.AroundIdeal.main_arg5)
      ∧ r.2.mem ((c.tc : Thread Cert.AroundIdeal.nD Cert.AroundIdeal.τ).loc Cert.AroundIdeal.main_arg6) = m ((c.tc : Thread Cert.AroundIdeal.nD Cert.AroundIdeal.τ).loc Cert.AroundIdeal.main_arg6)
      ∧ r.2.mem ((c.tc : Thread Cert.AroundIdeal.nD Cert.AroundIdeal.τ).loc Cert.AroundIdeal.main_arg7) = m ((c.tc : Thread Cert.AroundIdeal.nD Cert.AroundIdeal.τ).loc Cert.AroundIdeal.main_arg7)
      ∧ r.2.mem ((c.tc : Thread Cert.AroundIdeal.nD Cert.AroundIdeal.τ).loc Cert.AroundIdeal.main_arg8) = m ((c.tc : Thread Cert.AroundIdeal.nD Cert.AroundIdeal.τ).loc Cert.AroundIdeal.main_arg8)
      ∧ r.2.mem ((c.tc : Thread Cert.AroundIdeal.nD Cert.AroundIdeal.τ).loc Cert.AroundIdeal.main_arg9) = m ((c.tc : Thread Cert.AroundIdeal.nD Cert.AroundIdeal.τ).loc Cert.AroundIdeal.main_arg9)
      ∧ r.2.mem ((c.tc : Thread Cert.AroundIdeal.nD Cert.AroundIdeal.τ).loc Cert.AroundIdeal.main_arg10) = m ((c.tc : Thread Cert.AroundIdeal.nD Cert.AroundIdeal.τ).loc Cert.AroundIdeal.main_arg10)
      ∧ r.2.mem ((c.tc : Thread Cert.AroundIdeal.nD Cert.AroundIdeal.τ).loc Cert.AroundIdeal.main_arg11) = m ((c.tc : Thread Cert.AroundIdeal.nD Cert.AroundIdeal.τ).loc Cert.AroundIdeal.main_arg11)
      ∧ r.2.mem ((c.tc : Thread Cert.AroundIdeal.nD Cert.AroundIdeal.τ).loc Cert.AroundIdeal.main_arg12) = m ((c.tc : Thread Cert.AroundIdeal.nD Cert.AroundIdeal.τ).loc Cert.AroundIdeal.main_arg12)
      ∧ r.2.mem ((c.tc : Thread Cert.AroundIdeal.nD Cert.AroundIdeal.τ).loc Cert.AroundIdeal.main_arg13) = m ((c.tc : Thread Cert.AroundIdeal.nD Cert.AroundIdeal.τ).loc Cert.AroundIdeal.main_arg13)
      ∧ r.2.mem ((c.tc : Thread Cert.AroundIdeal.nD Cert.AroundIdeal.τ).loc Cert.AroundIdeal.main_arg14) = m ((c.tc : Thread Cert.AroundIdeal.nD Cert.AroundIdeal.τ).loc Cert.AroundIdeal.main_arg14)
      ∧ r.2.mem ((c.tc : Thread Cert.AroundIdeal.nD Cert.AroundIdeal.τ).loc Cert.AroundIdeal.main_arg15) = m ((c.tc : Thread Cert.AroundIdeal.nD Cert.AroundIdeal.τ).loc Cert.AroundIdeal.main_arg15)
      ∧ r.2.mem ((c.tc : Thread Cert.AroundIdeal.nD Cert.AroundIdeal.τ).loc Cert.AroundIdeal.main_arg16) = m ((c.tc : Thread Cert.AroundIdeal.nD Cert.AroundIdeal.τ).loc Cert.AroundIdeal.main_arg16))
      ∧ r.2.sem = fun _ => 0)

def quiescent_AroundRefIdeal [hAroundRefIdeal : Cert.AroundRefIdeal.Facts] : Prop :=
  ∀ (m : (ℓ : Loc Cert.AroundRefIdeal.nD Cert.AroundRefIdeal.τ Cert.AroundRefIdeal.sig) → Buf (Elt Ideal) ℓ) (g : Dev Cert.AroundRefIdeal.nD → PrngReg), Pre_AroundRefIdeal m →
    θ_run (Cert.AroundRefIdeal.defs (F := Ideal)) (onTc (τ := Cert.AroundRefIdeal.τ) (Cert.AroundRefIdeal.main (F := Ideal))) ⟨m, fun _ => 0, g⟩ (fun r => (∀ c : Dev Cert.AroundRefIdeal.nD,
      r.2.mem ((c.tc : Thread Cert.AroundRefIdeal.nD Cert.AroundRefIdeal.τ).loc Cert.AroundRefIdeal.main_arg0) = m ((c.tc : Thread Cert.AroundRefIdeal.nD Cert.AroundRefIdeal.τ).loc Cert.AroundRefIdeal.main_arg0)
      ∧ r.2.mem ((c.tc : Thread Cert.AroundRefIdeal.nD Cert.AroundRefIdeal.τ).loc Cert.AroundRefIdeal.main_arg1) = m ((c.tc : Thread Cert.AroundRefIdeal.nD Cert.AroundRefIdeal.τ).loc Cert.AroundRefIdeal.main_arg1)
      ∧ r.2.mem ((c.tc : Thread Cert.AroundRefIdeal.nD Cert.AroundRefIdeal.τ).loc Cert.AroundRefIdeal.main_arg2) = m ((c.tc : Thread Cert.AroundRefIdeal.nD Cert.AroundRefIdeal.τ).loc Cert.AroundRefIdeal.main_arg2)
      ∧ r.2.mem ((c.tc : Thread Cert.AroundRefIdeal.nD Cert.AroundRefIdeal.τ).loc Cert.AroundRefIdeal.main_arg3) = m ((c.tc : Thread Cert.AroundRefIdeal.nD Cert.AroundRefIdeal.τ).loc Cert.AroundRefIdeal.main_arg3)
      ∧ r.2.mem ((c.tc : Thread Cert.AroundRefIdeal.nD Cert.AroundRefIdeal.τ).loc Cert.AroundRefIdeal.main_arg4) = m ((c.tc : Thread Cert.AroundRefIdeal.nD Cert.AroundRefIdeal.τ).loc Cert.AroundRefIdeal.main_arg4)
      ∧ r.2.mem ((c.tc : Thread Cert.AroundRefIdeal.nD Cert.AroundRefIdeal.τ).loc Cert.AroundRefIdeal.main_arg5) = m ((c.tc : Thread Cert.AroundRefIdeal.nD Cert.AroundRefIdeal.τ).loc Cert.AroundRefIdeal.main_arg5)
      ∧ r.2.mem ((c.tc : Thread Cert.AroundRefIdeal.nD Cert.AroundRefIdeal.τ).loc Cert.AroundRefIdeal.main_arg6) = m ((c.tc : Thread Cert.AroundRefIdeal.nD Cert.AroundRefIdeal.τ).loc Cert.AroundRefIdeal.main_arg6)
      ∧ r.2.mem ((c.tc : Thread Cert.AroundRefIdeal.nD Cert.AroundRefIdeal.τ).loc Cert.AroundRefIdeal.main_arg7) = m ((c.tc : Thread Cert.AroundRefIdeal.nD Cert.AroundRefIdeal.τ).loc Cert.AroundRefIdeal.main_arg7)
      ∧ r.2.mem ((c.tc : Thread Cert.AroundRefIdeal.nD Cert.AroundRefIdeal.τ).loc Cert.AroundRefIdeal.main_arg8) = m ((c.tc : Thread Cert.AroundRefIdeal.nD Cert.AroundRefIdeal.τ).loc Cert.AroundRefIdeal.main_arg8)
      ∧ r.2.mem ((c.tc : Thread Cert.AroundRefIdeal.nD Cert.AroundRefIdeal.τ).loc Cert.AroundRefIdeal.main_arg9) = m ((c.tc : Thread Cert.AroundRefIdeal.nD Cert.AroundRefIdeal.τ).loc Cert.AroundRefIdeal.main_arg9)
      ∧ r.2.mem ((c.tc : Thread Cert.AroundRefIdeal.nD Cert.AroundRefIdeal.τ).loc Cert.AroundRefIdeal.main_arg10) = m ((c.tc : Thread Cert.AroundRefIdeal.nD Cert.AroundRefIdeal.τ).loc Cert.AroundRefIdeal.main_arg10)
      ∧ r.2.mem ((c.tc : Thread Cert.AroundRefIdeal.nD Cert.AroundRefIdeal.τ).loc Cert.AroundRefIdeal.main_arg11) = m ((c.tc : Thread Cert.AroundRefIdeal.nD Cert.AroundRefIdeal.τ).loc Cert.AroundRefIdeal.main_arg11)
      ∧ r.2.mem ((c.tc : Thread Cert.AroundRefIdeal.nD Cert.AroundRefIdeal.τ).loc Cert.AroundRefIdeal.main_arg12) = m ((c.tc : Thread Cert.AroundRefIdeal.nD Cert.AroundRefIdeal.τ).loc Cert.AroundRefIdeal.main_arg12)
      ∧ r.2.mem ((c.tc : Thread Cert.AroundRefIdeal.nD Cert.AroundRefIdeal.τ).loc Cert.AroundRefIdeal.main_arg13) = m ((c.tc : Thread Cert.AroundRefIdeal.nD Cert.AroundRefIdeal.τ).loc Cert.AroundRefIdeal.main_arg13)
      ∧ r.2.mem ((c.tc : Thread Cert.AroundRefIdeal.nD Cert.AroundRefIdeal.τ).loc Cert.AroundRefIdeal.main_arg14) = m ((c.tc : Thread Cert.AroundRefIdeal.nD Cert.AroundRefIdeal.τ).loc Cert.AroundRefIdeal.main_arg14)
      ∧ r.2.mem ((c.tc : Thread Cert.AroundRefIdeal.nD Cert.AroundRefIdeal.τ).loc Cert.AroundRefIdeal.main_arg15) = m ((c.tc : Thread Cert.AroundRefIdeal.nD Cert.AroundRefIdeal.τ).loc Cert.AroundRefIdeal.main_arg15)
      ∧ r.2.mem ((c.tc : Thread Cert.AroundRefIdeal.nD Cert.AroundRefIdeal.τ).loc Cert.AroundRefIdeal.main_arg16) = m ((c.tc : Thread Cert.AroundRefIdeal.nD Cert.AroundRefIdeal.τ).loc Cert.AroundRefIdeal.main_arg16))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Kernel_KernelIdeal : Prop :=
  True

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)) →
    ∃ (v0 : (c : Dev Cert.FirstIdeal.nD) → Buf (Elt Ideal) ((c.tc : Thread Cert.FirstIdeal.nD Cert.FirstIdeal.τ).loc Cert.FirstIdeal.main_v5_0)) (v1 : (c : Dev Cert.FirstIdeal.nD) → Buf (Elt Ideal) ((c.tc : Thread Cert.FirstIdeal.nD Cert.FirstIdeal.τ).loc Cert.FirstIdeal.main_v5_1)) (v2 : (c : Dev Cert.FirstIdeal.nD) → Buf (Elt Ideal) ((c.tc : Thread Cert.FirstIdeal.nD Cert.FirstIdeal.τ).loc Cert.FirstIdeal.main_v5_2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5_0) = v0 c
          ∧ r.2.mem ((c.tc : Thread Cert.FirstIdeal.nD Cert.FirstIdeal.τ).loc Cert.FirstIdeal.main_v5_1) = v1 c
          ∧ r.2.mem ((c.tc : Thread Cert.FirstIdeal.nD Cert.FirstIdeal.τ).loc Cert.FirstIdeal.main_v5_2) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v47) = v0 c
          ∧ r.2.mem ((c.tc : Thread Cert.FirstRefIdeal.nD Cert.FirstRefIdeal.τ).loc Cert.FirstRefIdeal.main_v49) = v1 c
          ∧ r.2.mem ((c.tc : Thread Cert.FirstRefIdeal.nD Cert.FirstRefIdeal.τ).loc Cert.FirstRefIdeal.main_v50) = v2 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8))

def preserves_Around_AroundIdeal : Prop :=
  True

def algebraic_AroundIdeal_AroundRefIdeal [hAroundIdeal : Cert.AroundIdeal.Facts] [hAroundRefIdeal : Cert.AroundRefIdeal.Facts] : Prop :=
  ∀ (m : (ℓ : Loc Cert.AroundIdeal.nD Cert.AroundIdeal.τ Cert.AroundIdeal.sig) → Buf (Elt Ideal) ℓ) (g : Dev Cert.AroundIdeal.nD → PrngReg)
    (m' : (ℓ : Loc Cert.AroundRefIdeal.nD Cert.AroundRefIdeal.τ Cert.AroundRefIdeal.sig) → Buf (Elt Ideal) ℓ) (g' : Dev Cert.AroundRefIdeal.nD → PrngReg), Pre_AroundIdeal m →
    (∀ c : Dev Cert.AroundIdeal.nD,
      m' ((c.tc : Thread Cert.AroundRefIdeal.nD Cert.AroundRefIdeal.τ).loc Cert.AroundRefIdeal.main_arg0) = m ((c.tc : Thread Cert.AroundIdeal.nD Cert.AroundIdeal.τ).loc Cert.AroundIdeal.main_arg0)
      ∧ m' ((c.tc : Thread Cert.AroundRefIdeal.nD Cert.AroundRefIdeal.τ).loc Cert.AroundRefIdeal.main_arg1) = m ((c.tc : Thread Cert.AroundIdeal.nD Cert.AroundIdeal.τ).loc Cert.AroundIdeal.main_arg1)
      ∧ m' ((c.tc : Thread Cert.AroundRefIdeal.nD Cert.AroundRefIdeal.τ).loc Cert.AroundRefIdeal.main_arg2) = m ((c.tc : Thread Cert.AroundIdeal.nD Cert.AroundIdeal.τ).loc Cert.AroundIdeal.main_arg2)
      ∧ m' ((c.tc : Thread Cert.AroundRefIdeal.nD Cert.AroundRefIdeal.τ).loc Cert.AroundRefIdeal.main_arg3) = m ((c.tc : Thread Cert.AroundIdeal.nD Cert.AroundIdeal.τ).loc Cert.AroundIdeal.main_arg3)
      ∧ m' ((c.tc : Thread Cert.AroundRefIdeal.nD Cert.AroundRefIdeal.τ).loc Cert.AroundRefIdeal.main_arg4) = m ((c.tc : Thread Cert.AroundIdeal.nD Cert.AroundIdeal.τ).loc Cert.AroundIdeal.main_arg4)
      ∧ m' ((c.tc : Thread Cert.AroundRefIdeal.nD Cert.AroundRefIdeal.τ).loc Cert.AroundRefIdeal.main_arg5) = m ((c.tc : Thread Cert.AroundIdeal.nD Cert.AroundIdeal.τ).loc Cert.AroundIdeal.main_arg5)
      ∧ m' ((c.tc : Thread Cert.AroundRefIdeal.nD Cert.AroundRefIdeal.τ).loc Cert.AroundRefIdeal.main_arg6) = m ((c.tc : Thread Cert.AroundIdeal.nD Cert.AroundIdeal.τ).loc Cert.AroundIdeal.main_arg6)
      ∧ m' ((c.tc : Thread Cert.AroundRefIdeal.nD Cert.AroundRefIdeal.τ).loc Cert.AroundRefIdeal.main_arg7) = m ((c.tc : Thread Cert.AroundIdeal.nD Cert.AroundIdeal.τ).loc Cert.AroundIdeal.main_arg7)
      ∧ m' ((c.tc : Thread Cert.AroundRefIdeal.nD Cert.AroundRefIdeal.τ).loc Cert.AroundRefIdeal.main_arg8) = m ((c.tc : Thread Cert.AroundIdeal.nD Cert.AroundIdeal.τ).loc Cert.AroundIdeal.main_arg8)
      ∧ m' ((c.tc : Thread Cert.AroundRefIdeal.nD Cert.AroundRefIdeal.τ).loc Cert.AroundRefIdeal.main_arg9) = m ((c.tc : Thread Cert.AroundIdeal.nD Cert.AroundIdeal.τ).loc Cert.AroundIdeal.main_arg9)
      ∧ m' ((c.tc : Thread Cert.AroundRefIdeal.nD Cert.AroundRefIdeal.τ).loc Cert.AroundRefIdeal.main_arg10) = m ((c.tc : Thread Cert.AroundIdeal.nD Cert.AroundIdeal.τ).loc Cert.AroundIdeal.main_arg10)
      ∧ m' ((c.tc : Thread Cert.AroundRefIdeal.nD Cert.AroundRefIdeal.τ).loc Cert.AroundRefIdeal.main_arg11) = m ((c.tc : Thread Cert.AroundIdeal.nD Cert.AroundIdeal.τ).loc Cert.AroundIdeal.main_arg11)
      ∧ m' ((c.tc : Thread Cert.AroundRefIdeal.nD Cert.AroundRefIdeal.τ).loc Cert.AroundRefIdeal.main_arg12) = m ((c.tc : Thread Cert.AroundIdeal.nD Cert.AroundIdeal.τ).loc Cert.AroundIdeal.main_arg12)
      ∧ m' ((c.tc : Thread Cert.AroundRefIdeal.nD Cert.AroundRefIdeal.τ).loc Cert.AroundRefIdeal.main_arg13) = m ((c.tc : Thread Cert.AroundIdeal.nD Cert.AroundIdeal.τ).loc Cert.AroundIdeal.main_arg13)
      ∧ m' ((c.tc : Thread Cert.AroundRefIdeal.nD Cert.AroundRefIdeal.τ).loc Cert.AroundRefIdeal.main_arg14) = m ((c.tc : Thread Cert.AroundIdeal.nD Cert.AroundIdeal.τ).loc Cert.AroundIdeal.main_arg14)
      ∧ m' ((c.tc : Thread Cert.AroundRefIdeal.nD Cert.AroundRefIdeal.τ).loc Cert.AroundRefIdeal.main_arg15) = m ((c.tc : Thread Cert.AroundIdeal.nD Cert.AroundIdeal.τ).loc Cert.AroundIdeal.main_arg15)
      ∧ m' ((c.tc : Thread Cert.AroundRefIdeal.nD Cert.AroundRefIdeal.τ).loc Cert.AroundRefIdeal.main_arg16) = m ((c.tc : Thread Cert.AroundIdeal.nD Cert.AroundIdeal.τ).loc Cert.AroundIdeal.main_arg16)) →
    ∃ (v0 : (c : Dev Cert.AroundIdeal.nD) → Buf (Elt Ideal) ((c.tc : Thread Cert.AroundIdeal.nD Cert.AroundIdeal.τ).loc Cert.AroundIdeal.main_v8_0)) (v1 : (c : Dev Cert.AroundIdeal.nD) → Buf (Elt Ideal) ((c.tc : Thread Cert.AroundIdeal.nD Cert.AroundIdeal.τ).loc Cert.AroundIdeal.main_v8_1)) (v2 : (c : Dev Cert.AroundIdeal.nD) → Buf (Elt Ideal) ((c.tc : Thread Cert.AroundIdeal.nD Cert.AroundIdeal.τ).loc Cert.AroundIdeal.main_v8_2)) (v3 : (c : Dev Cert.AroundIdeal.nD) → Buf (Elt Ideal) ((c.tc : Thread Cert.AroundIdeal.nD Cert.AroundIdeal.τ).loc Cert.AroundIdeal.main_v14)),
      θ_run (Cert.AroundIdeal.defs (F := Ideal)) (onTc (τ := Cert.AroundIdeal.τ) (Cert.AroundIdeal.main (F := Ideal))) ⟨m, fun _ => 0, g⟩ (fun r => ∀ c : Dev Cert.AroundIdeal.nD,
          r.2.mem ((c.tc : Thread Cert.AroundIdeal.nD Cert.AroundIdeal.τ).loc Cert.AroundIdeal.main_v8_0) = v0 c
          ∧ r.2.mem ((c.tc : Thread Cert.AroundIdeal.nD Cert.AroundIdeal.τ).loc Cert.AroundIdeal.main_v8_1) = v1 c
          ∧ r.2.mem ((c.tc : Thread Cert.AroundIdeal.nD Cert.AroundIdeal.τ).loc Cert.AroundIdeal.main_v8_2) = v2 c
          ∧ r.2.mem ((c.tc : Thread Cert.AroundIdeal.nD Cert.AroundIdeal.τ).loc Cert.AroundIdeal.main_v14) = v3 c
          ∧ r.2.mem ((c.tc : Thread Cert.AroundIdeal.nD Cert.AroundIdeal.τ).loc Cert.AroundIdeal.main_arg0) = m ((c.tc : Thread Cert.AroundIdeal.nD Cert.AroundIdeal.τ).loc Cert.AroundIdeal.main_arg0)
          ∧ r.2.mem ((c.tc : Thread Cert.AroundIdeal.nD Cert.AroundIdeal.τ).loc Cert.AroundIdeal.main_arg1) = m ((c.tc : Thread Cert.AroundIdeal.nD Cert.AroundIdeal.τ).loc Cert.AroundIdeal.main_arg1)
          ∧ r.2.mem ((c.tc : Thread Cert.AroundIdeal.nD Cert.AroundIdeal.τ).loc Cert.AroundIdeal.main_arg2) = m ((c.tc : Thread Cert.AroundIdeal.nD Cert.AroundIdeal.τ).loc Cert.AroundIdeal.main_arg2)
          ∧ r.2.mem ((c.tc : Thread Cert.AroundIdeal.nD Cert.AroundIdeal.τ).loc Cert.AroundIdeal.main_arg3) = m ((c.tc : Thread Cert.AroundIdeal.nD Cert.AroundIdeal.τ).loc Cert.AroundIdeal.main_arg3)
          ∧ r.2.mem ((c.tc : Thread Cert.AroundIdeal.nD Cert.AroundIdeal.τ).loc Cert.AroundIdeal.main_arg4) = m ((c.tc : Thread Cert.AroundIdeal.nD Cert.AroundIdeal.τ).loc Cert.AroundIdeal.main_arg4)
          ∧ r.2.mem ((c.tc : Thread Cert.AroundIdeal.nD Cert.AroundIdeal.τ).loc Cert.AroundIdeal.main_arg5) = m ((c.tc : Thread Cert.AroundIdeal.nD Cert.AroundIdeal.τ).loc Cert.AroundIdeal.main_arg5)
          ∧ r.2.mem ((c.tc : Thread Cert.AroundIdeal.nD Cert.AroundIdeal.τ).loc Cert.AroundIdeal.main_arg6) = m ((c.tc : Thread Cert.AroundIdeal.nD Cert.AroundIdeal.τ).loc Cert.AroundIdeal.main_arg6)
          ∧ r.2.mem ((c.tc : Thread Cert.AroundIdeal.nD Cert.AroundIdeal.τ).loc Cert.AroundIdeal.main_arg7) = m ((c.tc : Thread Cert.AroundIdeal.nD Cert.AroundIdeal.τ).loc Cert.AroundIdeal.main_arg7)
          ∧ r.2.mem ((c.tc : Thread Cert.AroundIdeal.nD Cert.AroundIdeal.τ).loc Cert.AroundIdeal.main_arg8) = m ((c.tc : Thread Cert.AroundIdeal.nD Cert.AroundIdeal.τ).loc Cert.AroundIdeal.main_arg8)
          ∧ r.2.mem ((c.tc : Thread Cert.AroundIdeal.nD Cert.AroundIdeal.τ).loc Cert.AroundIdeal.main_arg9) = m ((c.tc : Thread Cert.AroundIdeal.nD Cert.AroundIdeal.τ).loc Cert.AroundIdeal.main_arg9)
          ∧ r.2.mem ((c.tc : Thread Cert.AroundIdeal.nD Cert.AroundIdeal.τ).loc Cert.AroundIdeal.main_arg10) = m ((c.tc : Thread Cert.AroundIdeal.nD Cert.AroundIdeal.τ).loc Cert.AroundIdeal.main_arg10)
          ∧ r.2.mem ((c.tc : Thread Cert.AroundIdeal.nD Cert.AroundIdeal.τ).loc Cert.AroundIdeal.main_arg11) = m ((c.tc : Thread Cert.AroundIdeal.nD Cert.AroundIdeal.τ).loc Cert.AroundIdeal.main_arg11)
          ∧ r.2.mem ((c.tc : Thread Cert.AroundIdeal.nD Cert.AroundIdeal.τ).loc Cert.AroundIdeal.main_arg12) = m ((c.tc : Thread Cert.AroundIdeal.nD Cert.AroundIdeal.τ).loc Cert.AroundIdeal.main_arg12)
          ∧ r.2.mem ((c.tc : Thread Cert.AroundIdeal.nD Cert.AroundIdeal.τ).loc Cert.AroundIdeal.main_arg13) = m ((c.tc : Thread Cert.AroundIdeal.nD Cert.AroundIdeal.τ).loc Cert.AroundIdeal.main_arg13)
          ∧ r.2.mem ((c.tc : Thread Cert.AroundIdeal.nD Cert.AroundIdeal.τ).loc Cert.AroundIdeal.main_arg14) = m ((c.tc : Thread Cert.AroundIdeal.nD Cert.AroundIdeal.τ).loc Cert.AroundIdeal.main_arg14)
          ∧ r.2.mem ((c.tc : Thread Cert.AroundIdeal.nD Cert.AroundIdeal.τ).loc Cert.AroundIdeal.main_arg15) = m ((c.tc : Thread Cert.AroundIdeal.nD Cert.AroundIdeal.τ).loc Cert.AroundIdeal.main_arg15)
          ∧ r.2.mem ((c.tc : Thread Cert.AroundIdeal.nD Cert.AroundIdeal.τ).loc Cert.AroundIdeal.main_arg16) = m ((c.tc : Thread Cert.AroundIdeal.nD Cert.AroundIdeal.τ).loc Cert.AroundIdeal.main_arg16))
      ∧ θ_run (Cert.AroundRefIdeal.defs (F := Ideal)) (onTc (τ := Cert.AroundRefIdeal.τ) (Cert.AroundRefIdeal.main (F := Ideal))) ⟨m', fun _ => 0, g'⟩ (fun r => ∀ c : Dev Cert.AroundRefIdeal.nD,
          r.2.mem ((c.tc : Thread Cert.AroundRefIdeal.nD Cert.AroundRefIdeal.τ).loc Cert.AroundRefIdeal.main_v51) = v0 c
          ∧ r.2.mem ((c.tc : Thread Cert.AroundRefIdeal.nD Cert.AroundRefIdeal.τ).loc Cert.AroundRefIdeal.main_v101) = v1 c
          ∧ r.2.mem ((c.tc : Thread Cert.AroundRefIdeal.nD Cert.AroundRefIdeal.τ).loc Cert.AroundRefIdeal.main_v102) = v2 c
          ∧ r.2.mem ((c.tc : Thread Cert.AroundRefIdeal.nD Cert.AroundRefIdeal.τ).loc Cert.AroundRefIdeal.main_v99) = v3 c
          ∧ r.2.mem ((c.tc : Thread Cert.AroundRefIdeal.nD Cert.AroundRefIdeal.τ).loc Cert.AroundRefIdeal.main_arg0) = m' ((c.tc : Thread Cert.AroundRefIdeal.nD Cert.AroundRefIdeal.τ).loc Cert.AroundRefIdeal.main_arg0)
          ∧ r.2.mem ((c.tc : Thread Cert.AroundRefIdeal.nD Cert.AroundRefIdeal.τ).loc Cert.AroundRefIdeal.main_arg1) = m' ((c.tc : Thread Cert.AroundRefIdeal.nD Cert.AroundRefIdeal.τ).loc Cert.AroundRefIdeal.main_arg1)
          ∧ r.2.mem ((c.tc : Thread Cert.AroundRefIdeal.nD Cert.AroundRefIdeal.τ).loc Cert.AroundRefIdeal.main_arg2) = m' ((c.tc : Thread Cert.AroundRefIdeal.nD Cert.AroundRefIdeal.τ).loc Cert.AroundRefIdeal.main_arg2)
          ∧ r.2.mem ((c.tc : Thread Cert.AroundRefIdeal.nD Cert.AroundRefIdeal.τ).loc Cert.AroundRefIdeal.main_arg3) = m' ((c.tc : Thread Cert.AroundRefIdeal.nD Cert.AroundRefIdeal.τ).loc Cert.AroundRefIdeal.main_arg3)
          ∧ r.2.mem ((c.tc : Thread Cert.AroundRefIdeal.nD Cert.AroundRefIdeal.τ).loc Cert.AroundRefIdeal.main_arg4) = m' ((c.tc : Thread Cert.AroundRefIdeal.nD Cert.AroundRefIdeal.τ).loc Cert.AroundRefIdeal.main_arg4)
          ∧ r.2.mem ((c.tc : Thread Cert.AroundRefIdeal.nD Cert.AroundRefIdeal.τ).loc Cert.AroundRefIdeal.main_arg5) = m' ((c.tc : Thread Cert.AroundRefIdeal.nD Cert.AroundRefIdeal.τ).loc Cert.AroundRefIdeal.main_arg5)
          ∧ r.2.mem ((c.tc : Thread Cert.AroundRefIdeal.nD Cert.AroundRefIdeal.τ).loc Cert.AroundRefIdeal.main_arg6) = m' ((c.tc : Thread Cert.AroundRefIdeal.nD Cert.AroundRefIdeal.τ).loc Cert.AroundRefIdeal.main_arg6)
          ∧ r.2.mem ((c.tc : Thread Cert.AroundRefIdeal.nD Cert.AroundRefIdeal.τ).loc Cert.AroundRefIdeal.main_arg7) = m' ((c.tc : Thread Cert.AroundRefIdeal.nD Cert.AroundRefIdeal.τ).loc Cert.AroundRefIdeal.main_arg7)
          ∧ r.2.mem ((c.tc : Thread Cert.AroundRefIdeal.nD Cert.AroundRefIdeal.τ).loc Cert.AroundRefIdeal.main_arg8) = m' ((c.tc : Thread Cert.AroundRefIdeal.nD Cert.AroundRefIdeal.τ).loc Cert.AroundRefIdeal.main_arg8)
          ∧ r.2.mem ((c.tc : Thread Cert.AroundRefIdeal.nD Cert.AroundRefIdeal.τ).loc Cert.AroundRefIdeal.main_arg9) = m' ((c.tc : Thread Cert.AroundRefIdeal.nD Cert.AroundRefIdeal.τ).loc Cert.AroundRefIdeal.main_arg9)
          ∧ r.2.mem ((c.tc : Thread Cert.AroundRefIdeal.nD Cert.AroundRefIdeal.τ).loc Cert.AroundRefIdeal.main_arg10) = m' ((c.tc : Thread Cert.AroundRefIdeal.nD Cert.AroundRefIdeal.τ).loc Cert.AroundRefIdeal.main_arg10)
          ∧ r.2.mem ((c.tc : Thread Cert.AroundRefIdeal.nD Cert.AroundRefIdeal.τ).loc Cert.AroundRefIdeal.main_arg11) = m' ((c.tc : Thread Cert.AroundRefIdeal.nD Cert.AroundRefIdeal.τ).loc Cert.AroundRefIdeal.main_arg11)
          ∧ r.2.mem ((c.tc : Thread Cert.AroundRefIdeal.nD Cert.AroundRefIdeal.τ).loc Cert.AroundRefIdeal.main_arg12) = m' ((c.tc : Thread Cert.AroundRefIdeal.nD Cert.AroundRefIdeal.τ).loc Cert.AroundRefIdeal.main_arg12)
          ∧ r.2.mem ((c.tc : Thread Cert.AroundRefIdeal.nD Cert.AroundRefIdeal.τ).loc Cert.AroundRefIdeal.main_arg13) = m' ((c.tc : Thread Cert.AroundRefIdeal.nD Cert.AroundRefIdeal.τ).loc Cert.AroundRefIdeal.main_arg13)
          ∧ r.2.mem ((c.tc : Thread Cert.AroundRefIdeal.nD Cert.AroundRefIdeal.τ).loc Cert.AroundRefIdeal.main_arg14) = m' ((c.tc : Thread Cert.AroundRefIdeal.nD Cert.AroundRefIdeal.τ).loc Cert.AroundRefIdeal.main_arg14)
          ∧ r.2.mem ((c.tc : Thread Cert.AroundRefIdeal.nD Cert.AroundRefIdeal.τ).loc Cert.AroundRefIdeal.main_arg15) = m' ((c.tc : Thread Cert.AroundRefIdeal.nD Cert.AroundRefIdeal.τ).loc Cert.AroundRefIdeal.main_arg15)
          ∧ r.2.mem ((c.tc : Thread Cert.AroundRefIdeal.nD Cert.AroundRefIdeal.τ).loc Cert.AroundRefIdeal.main_arg16) = m' ((c.tc : Thread Cert.AroundRefIdeal.nD Cert.AroundRefIdeal.τ).loc Cert.AroundRefIdeal.main_arg16))

def Claim : Prop :=
  ∃ (hFfn : Cert.Ffn.Facts) (hFfnIdeal : Cert.FfnIdeal.Facts) (hFfnRefIdeal : Cert.FfnRefIdeal.Facts) (hKernel : Cert.Kernel.Facts) (hKernelIdeal : Cert.KernelIdeal.Facts) (hReferenceIdeal : Cert.ReferenceIdeal.Facts) (hAda : Cert.Ada.Facts) (hAdaIdeal : Cert.AdaIdeal.Facts) (hAdaRefIdeal : Cert.AdaRefIdeal.Facts) (hFirst : Cert.First.Facts) (hFirstIdeal : Cert.FirstIdeal.Facts) (hFirstRefIdeal : Cert.FirstRefIdeal.Facts) (hAround : Cert.Around.Facts) (hAroundIdeal : Cert.AroundIdeal.Facts) (hAroundRefIdeal : Cert.AroundRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Kernel (hKernel := hKernel)
    ∧ quiescent_KernelIdeal (hKernelIdeal := hKernelIdeal)
    ∧ quiescent_ReferenceIdeal (hReferenceIdeal := hReferenceIdeal)
    ∧ quiescent_Ada (hAda := hAda)
    ∧ quiescent_AdaIdeal (hAdaIdeal := hAdaIdeal)
    ∧ quiescent_AdaRefIdeal (hAdaRefIdeal := hAdaRefIdeal)
    ∧ quiescent_First (hFirst := hFirst)
    ∧ quiescent_FirstIdeal (hFirstIdeal := hFirstIdeal)
    ∧ quiescent_FirstRefIdeal (hFirstRefIdeal := hFirstRefIdeal)
    ∧ quiescent_Around (hAround := hAround)
    ∧ quiescent_AroundIdeal (hAroundIdeal := hAroundIdeal)
    ∧ quiescent_AroundRefIdeal (hAroundRefIdeal := hAroundRefIdeal)
    ∧ preserves_Ffn_FfnIdeal
    ∧ algebraic_FfnIdeal_FfnRefIdeal (hFfnIdeal := hFfnIdeal) (hFfnRefIdeal := hFfnRefIdeal)
    ∧ preserves_Kernel_KernelIdeal
    ∧ preserves_Ada_AdaIdeal
    ∧ algebraic_AdaIdeal_AdaRefIdeal (hAdaIdeal := hAdaIdeal) (hAdaRefIdeal := hAdaRefIdeal)
    ∧ preserves_First_FirstIdeal
    ∧ algebraic_FirstIdeal_FirstRefIdeal (hFirstIdeal := hFirstIdeal) (hFirstRefIdeal := hFirstRefIdeal)
    ∧ preserves_Around_AroundIdeal
    ∧ algebraic_AroundIdeal_AroundRefIdeal (hAroundIdeal := hAroundIdeal) (hAroundRefIdeal := hAroundRefIdeal)
-- ==== Ffn.lean ====
abbrev S16384x1024 : Shape := ⟨2, ![16384, 1024]⟩
abbrev S9x1x1024 : Shape := ⟨3, ![9, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S2816x256 : Shape := ⟨2, ![2816, 256]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S9x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S9x1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S9x1x1024 : Shape := ⟨3, ![9, 1, 1024]⟩
abbrev S1024 : Shape := ⟨1, ![1024]⟩
abbrev S1024x2816 : Shape := ⟨2, ![1024, 2816]⟩
abbrev S2816x1024 : Shape := ⟨2, ![2816, 1024]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S1x1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel.lean ====
abbrev S16384x1024 : Shape := ⟨2, ![16384, 1024]⟩
abbrev S9x1x1024 : Shape := ⟨3, ![9, 1, 1024]⟩
abbrev S1024 : Shape := ⟨1, ![1024]⟩
abbrev S1024x3232 : Shape := ⟨2, ![1024, 3232]⟩
abbrev S3x512 : Shape := ⟨2, ![3, 512]⟩
abbrev S1696 : Shape := ⟨1, ![1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S1024x1024 : Shape := ⟨2, ![1024, 1024]⟩
abbrev S1024x2816 : Shape := ⟨2, ![1024, 2816]⟩
abbrev S2816x1024 : Shape := ⟨2, ![2816, 1024]⟩
abbrev S1024x3072 : Shape := ⟨2, ![1024, 3072]⟩
abbrev S1024x160 : Shape := ⟨2, ![1024, 160]⟩
abbrev S_ : Shape := ⟨0, ![]⟩
abbrev S1024x256 : Shape := ⟨2, ![1024, 256]⟩
abbrev S1536 : Shape := ⟨1, ![1536]⟩
abbrev S1x1536 : Shape := ⟨2, ![1, 1536]⟩
abbrev S160 : Shape := ⟨1, ![160]⟩
abbrev S256 : Shape := ⟨1, ![256]⟩
abbrev S1x256 : Shape := ⟨2, ![1, 256]⟩
abbrev S256x1536 : Shape := ⟨2, ![256, 1536]⟩
abbrev S1 : Shape := ⟨1, ![1]⟩
abbrev S2 : Shape := ⟨1, ![2]⟩
abbrev S256x1 : Shape := ⟨2, ![256, 1]⟩
abbrev S256x256 : Shape := ⟨2, ![256, 256]⟩
abbrev S1x1024 : Shape := ⟨2, ![1, 1024]⟩
abbrev S1x512 : Shape := ⟨2, ![1, 512]⟩
abbrev S512x1024 : Shape := ⟨2, ![512, 1024]⟩
abbrev S32x2816 : Shape := ⟨2, ![32, 2816]⟩
abbrev S176x1024 : Shape := ⟨2, ![176, 1024]⟩
abbrev S2x512 : Shape := ⟨2, ![2, 512]⟩
abbrev S4x128x128 : Shape := ⟨3, ![4, 128, 128]⟩
abbrev S64x128 : Shape := ⟨2, ![64, 128]⟩
abbrev S128x128 : Shape := ⟨2, ![128, 128]⟩
abbrev S1x1x1024 : Shape := ⟨3, ![1, 1, 1024]⟩
abbrev S256x1024 : Shape := ⟨2, ![256, 1024]⟩
abbrev S1024x512 : Shape := ⟨2, ![1024, 512]⟩
abbrev S256x512 : Shape := ⟨2, ![256, 512]⟩
abbrev S4x64x512 : Shape := ⟨3, ![4, 64, 512]⟩
abbrev S4x1x512 : Shape := ⟨3, ![4, 1, 512]⟩
abbrev S1x64x128 : Shape := ⟨3, ![1, 64, 128]⟩
abbrev S16x64x128 : Shape := ⟨3, ![16, 64, 128]⟩
abbrev S16x128x128 : Shape := ⟨3, ![16, 128, 128]⟩
abbrev S16x256x128 : Shape := ⟨3, ![16, 256, 128]⟩
abbrev S16x128x256 : Shape := ⟨3, ![16, 128, 256]⟩
abbrev S16x64x256 : Shape := ⟨3, ![16, 64, 256]⟩
abbrev S1x128x128 : Shape := ⟨3, ![1, 128, 128]⟩
abbrev S4x64x128 : Shape := ⟨3, ![4, 64, 128]⟩
abbrev S64x512 : Shape := ⟨2, ![64, 512]⟩
abbrev S1x1x128 : Shape := ⟨3, ![1, 1, 128]⟩
abbrev S1x128 : Shape := ⟨2, ![1, 128]⟩
abbrev S4x128 : Shape := ⟨2, ![4, 128]⟩
abbrev S4x128x1 : Shape := ⟨3, ![4, 128, 1]⟩

abbrev nBuf : Space → Nat
  | .hbm => 95
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S9x1x1024, .f32⟩
  | .hbm, ⟨2, _⟩ => ⟨S1024, .f32⟩
  | .hbm, ⟨3, _⟩ => ⟨S1024x3232, .f32⟩
  | .hbm, ⟨4, _⟩ => ⟨S3x512, .f32⟩
  | .hbm, ⟨5, _⟩ => ⟨S1696, .f32⟩
  | .hbm, ⟨6, _⟩ => ⟨S512, .f32⟩
  | .hbm, ⟨7, _⟩ => ⟨S32x512, .f32⟩
  | .hbm, ⟨8, _⟩ => ⟨S512, .f32⟩
  | .hbm, ⟨9, _⟩ => ⟨S32x512, .f32⟩
  | .hbm, ⟨10, _⟩ => ⟨S96x512, .f32⟩
  | .hbm, ⟨11, _⟩ => ⟨S512, .f32⟩
  | .hbm, ⟨12, _⟩ => ⟨S512, .f32⟩
  | .hbm, ⟨13, _⟩ => ⟨S8x64, .f32⟩
  | .hbm, ⟨14, _⟩ => ⟨S512, .f32⟩
  | .hbm, ⟨15, _⟩ => ⟨S512, .f32⟩
  | .hbm, ⟨16, _⟩ => ⟨S1024x1024, .f32⟩
  | .hbm, ⟨17, _⟩ => ⟨S1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S1024x3072, .f32⟩
  | .hbm, ⟨22, _⟩ => ⟨S1024x3072, .bf16⟩
  | .hbm, ⟨23, _⟩ => ⟨S1024x1024, .bf16⟩
  | .hbm, ⟨24, _⟩ => ⟨S1024x160, .f32⟩
  | .hbm, ⟨25, _⟩ => ⟨S_, .i32⟩
  | .hbm, ⟨26, _⟩ => ⟨S_, .f32⟩
  | .hbm, ⟨27, _⟩ => ⟨S1024x256, .f32⟩
  | .hbm, ⟨28, _⟩ => ⟨S1024x256, .bf16⟩
  | .hbm, ⟨29, _⟩ => ⟨S1536, .f32⟩
  | .hbm, ⟨30, _⟩ => ⟨S1x1536, .f32⟩
  | .hbm, ⟨31, _⟩ => ⟨S160, .f32⟩
  | .hbm, ⟨32, _⟩ => ⟨S_, .i32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S256x1536, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x1536, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S256x1536, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S256x1536, .f32⟩
  | .hbm, ⟨56, _⟩ => ⟨S256, .i32⟩
  | .hbm, ⟨57, _⟩ => ⟨S_, .i32⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S256, .i32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S1x256, .i32⟩
  | .hbm, ⟨77, _⟩ => ⟨S256x256, .i32⟩
  | .hbm, ⟨78, _⟩ => ⟨S256x256, .i32⟩
  | .hbm, ⟨79, _⟩ => ⟨S256x256, .i1⟩
  | .hbm, ⟨80, _⟩ => ⟨S256x256, .bf16⟩
  | .hbm, ⟨81, _⟩ => ⟨S1x1024, .f32⟩
  | .hbm, ⟨82, _⟩ => ⟨S1x512, .f32⟩
  | .hbm, ⟨83, _⟩ => ⟨S1x512, .f32⟩
  | .hbm, ⟨84, _⟩ => ⟨S256x1536, .bf16⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S1x1024, .f32⟩
  | .hbm, ⟨91, _⟩ => ⟨S16384x1024, .f32⟩
  | .hbm, ⟨92, _⟩ => ⟨S1024x2816, .bf16⟩
  | .hbm, ⟨93, _⟩ => ⟨S1024x2816, .bf16⟩
  | .hbm, ⟨94, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S9x1x1024, .f32⟩
  | .local _ .vmem, ⟨3, _⟩ => ⟨S1x1024, .f32⟩
  | .local _ .vmem, ⟨4, _⟩ => ⟨S1024x3072, .bf16⟩
  | .local _ .vmem, ⟨5, _⟩ => ⟨S1024x256, .bf16⟩
  | .local _ .vmem, ⟨6, _⟩ => ⟨S1x1536, .f32⟩
  | .local _ .vmem, ⟨7, _⟩ => ⟨S1x256, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S256x1536, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S256x256, .bf16⟩
  | .local _ .vmem, ⟨18, _⟩ => ⟨S1024x1024, .bf16⟩
  | .local _ .vmem, ⟨19, _⟩ => ⟨S1x1024, .f32⟩
  | .local _ .vmem, ⟨20, _⟩ => ⟨S32x2816, .f32⟩
  | .local _ .vmem, ⟨21, _⟩ => ⟨S32x2816, .f32⟩
  | .local _ .vmem, ⟨22, _⟩ => ⟨S32x2816, .f32⟩
  | .local _ .vmem, ⟨23, _⟩ => ⟨S32x2816, .f32⟩
  | .local _ .vmem, ⟨24, _⟩ => ⟨S176x1024, .f32⟩
  | .local _ .vmem, ⟨25, _⟩ => ⟨S176x1024, .f32⟩
  | .local _ .vmem, ⟨26, _⟩ => ⟨S512x1024, .f32⟩
  | .local _ .vmem, ⟨27, _⟩ => ⟨S512x1024, .f32⟩
  | .local _ .vmem, ⟨28, _⟩ => ⟨S32x2816, .bf16⟩
  | .local _ .vmem, ⟨29, _⟩ => ⟨S32x2816, .bf16⟩
  | .local _ .vmem, ⟨30, _⟩ => ⟨S32x2816, .bf16⟩
  | .local _ .vmem, ⟨31, _⟩ => ⟨S32x2816, .bf16⟩
  | .local _ .vmem, ⟨32, _⟩ => ⟨S176x1024, .bf16⟩
  | .local _ .vmem, ⟨33, _⟩ => ⟨S176x1024, .bf16⟩
  | .local _ .vmem, ⟨34, _⟩ => ⟨S1x1536, .f32⟩
  | .local _ .vmem, ⟨35, _⟩ => ⟨S1x256, .f32⟩
  | .local _ .vmem, ⟨36, _⟩ => ⟨S2x512, .f32⟩
  | .local _ .vmem, ⟨37, _⟩ => ⟨S4x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42_0 : Ref sig .tc := ⟨.hbm, 91, rfl⟩
abbrev main_v42_1 : Ref sig .tc := ⟨.hbm, 92, rfl⟩
abbrev main_v42_2 : Ref sig .tc := ⟨.hbm, 93, rfl⟩
abbrev main_v42_3 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_24 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_25 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S32x2816 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x2816 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x2816 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x2816 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S176x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S16384x1024 : Shape := ⟨2, ![16384, 1024]⟩
abbrev S9x1x1024 : Shape := ⟨3, ![9, 1, 1024]⟩
abbrev S1024 : Shape := ⟨1, ![1024]⟩
abbrev S1024x3232 : Shape := ⟨2, ![1024, 3232]⟩
abbrev S3x512 : Shape := ⟨2, ![3, 512]⟩
abbrev S1696 : Shape := ⟨1, ![1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S1024x1024 : Shape := ⟨2, ![1024, 1024]⟩
abbrev S1024x2816 : Shape := ⟨2, ![1024, 2816]⟩
abbrev S2816x1024 : Shape := ⟨2, ![2816, 1024]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x3232 : Shape := ⟨2, ![16384, 3232]⟩
abbrev S16384x512 : Shape := ⟨2, ![16384, 512]⟩
abbrev S16384x1696 : Shape := ⟨2, ![16384, 1696]⟩
abbrev S1x512 : Shape := ⟨2, ![1, 512]⟩
abbrev S16385x512 : Shape := ⟨2, ![16385, 512]⟩
abbrev S16385x1696 : Shape := ⟨2, ![16385, 1696]⟩
abbrev S1x1696 : Shape := ⟨2, ![1, 1696]⟩
abbrev S16384x32 : Shape := ⟨2, ![16384, 32]⟩
abbrev S16384x96 : Shape := ⟨2, ![16384, 96]⟩
abbrev S16384x8x64 : Shape := ⟨3, ![16384, 8, 64]⟩
abbrev S1x8x64 : Shape := ⟨3, ![1, 8, 64]⟩
abbrev S16384x8 : Shape := ⟨2, ![16384, 8]⟩
abbrev S16384x8x1 : Shape := ⟨3, ![16384, 8, 1]⟩
abbrev S8x64x64 : Shape := ⟨3, ![8, 64, 64]⟩
abbrev S8x1x64 : Shape := ⟨3, ![8, 1, 64]⟩
abbrev S8x64x1 : Shape := ⟨3, ![8, 64, 1]⟩

abbrev nBuf : Space → Nat
  | .hbm => 310
  | .vmem => 0
  | .smem => 0
  | _ => 0

abbrev hbmTy0_0 (i : Nat) : BufTy := match i % 128 with
  | 0 => ⟨S16384x1024, .f32⟩
  | 1 => ⟨S9x1x1024, .f32⟩
  | 2 => ⟨S1024, .f32⟩
  | 3 => ⟨S1024x3232, .f32⟩
  | 4 => ⟨S3x512, .f32⟩
  | 5 => ⟨S1696, .f32⟩
  | 6 => ⟨S512, .f32⟩
  | 7 => ⟨S32x512, .f32⟩
  | 8 => ⟨S512, .f32⟩
  | 9 => ⟨S32x512, .f32⟩
  | 10 => ⟨S96x512, .f32⟩
  | 11 => ⟨S512, .f32⟩
  | 12 => ⟨S512, .f32⟩
  | 13 => ⟨S8x64, .f32⟩
  | 14 => ⟨S512, .f32⟩
  | 15 => ⟨S512, .f32⟩
  | 16 => ⟨S1024x1024, .f32⟩
  | 17 => ⟨S1024, .f32⟩
  | 18 => ⟨S1024x2816, .f32⟩
  | 19 => ⟨S1024x2816, .f32⟩
  | 20 => ⟨S2816x1024, .f32⟩
  | 21 => ⟨S1x1x1024, .f32⟩
  | 22 => ⟨S1x1024, .f32⟩
  | 23 => ⟨S1x1x1024, .f32⟩
  | 24 => ⟨S1x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S_, .f32⟩
  | 42 => ⟨S1x1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S16384x3232, .f32⟩
  | 49 => ⟨S16384x512, .f32⟩
  | 50 => ⟨S16384x512, .f32⟩
  | 51 => ⟨S16384x512, .f32⟩
  | 52 => ⟨S16384x1696, .f32⟩
  | 53 => ⟨S16384x512, .f32⟩
  | 54 => ⟨S1x512, .f32⟩
  | 55 => ⟨S512, .f32⟩
  | 56 => ⟨S_, .i32⟩
  | 57 => ⟨S_, .f32⟩
  | 58 => ⟨S16385x512, .f32⟩
  | 59 => ⟨S16384x512, .f32⟩
  | 60 => ⟨S_, .i32⟩
  | 61 => ⟨S_, .f32⟩
  | 62 => ⟨S16385x512, .f32⟩
  | 63 => ⟨S16384x512, .f32⟩
  | 64 => ⟨S1x512, .f32⟩
  | 65 => ⟨S16384x512, .f32⟩
  | 66 => ⟨S16384x512, .f32⟩
  | 67 => ⟨S1x512, .f32⟩
  | 68 => ⟨S512, .f32⟩
  | 69 => ⟨S_, .i32⟩
  | 70 => ⟨S_, .f32⟩
  | 71 => ⟨S16385x512, .f32⟩
  | 72 => ⟨S16384x512, .f32⟩
  | 73 => ⟨S1x512, .f32⟩
  | 74 => ⟨S16384x512, .f32⟩
  | 75 => ⟨S16384x512, .f32⟩
  | 76 => ⟨S16384x512, .f32⟩
  | 77 => ⟨S1x512, .f32⟩
  | 78 => ⟨S512, .f32⟩
  | 79 => ⟨S1x512, .f32⟩
  | 80 => ⟨S16384x512, .f32⟩
  | 81 => ⟨S16384x512, .f32⟩
  | 82 => ⟨S16384x512, .f32⟩
  | 83 => ⟨S16384x512, .f32⟩
  | 84 => ⟨S_, .i32⟩
  | 85 => ⟨S_, .f32⟩
  | 86 => ⟨S16385x1696, .f32⟩
  | 87 => ⟨S16384x1696, .f32⟩
  | 88 => ⟨S16384x1696, .f32⟩
  | 89 => ⟨S1x1696, .f32⟩
  | 90 => ⟨S16384x1696, .f32⟩
  | 91 => ⟨S16384x1696, .f32⟩
  | 92 => ⟨S16384x1696, .f32⟩
  | 93 => ⟨S16384x512, .f32⟩
  | 94 => ⟨S16384x512, .f32⟩
  | 95 => ⟨S16384x512, .f32⟩
  | 96 => ⟨S16384x32, .f32⟩
  | 97 => ⟨S16384x32, .f32⟩
  | 98 => ⟨S16384x96, .f32⟩
  | 99 => ⟨S16384x32, .f32⟩
  | 100 => ⟨S16384x512, .f32⟩
  | 101 => ⟨S1x512, .f32⟩
  | 102 => ⟨S16384x512, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S16384x512, .f32⟩
  | 109 => ⟨S16384x512, .f32⟩
  | 110 => ⟨S16384x512, .i1⟩
  | 111 => ⟨S16384x512, .f32⟩
  | 112 => ⟨S16384x512, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S16384x512, .f32⟩
  | 120 => ⟨S_, .f32⟩
  | 121 => ⟨S16384x512, .f32⟩
  | 122 => ⟨S16384x512, .f32⟩
  | 123 => ⟨S16384x512, .f32⟩
  | 124 => ⟨S16384x512, .f32⟩
  | 125 => ⟨S16384x512, .f32⟩
  | 126 => ⟨S16384x512, .f32⟩
  | 127 => ⟨S1x512, .f32⟩
  | _ => ⟨S16384x1024, .f32⟩

abbrev hbmTy0_1 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x96, .f32⟩
  | 11 => ⟨S16384x96, .f32⟩
  | 12 => ⟨S_, .f32⟩
  | 13 => ⟨S16384x96, .f32⟩
  | 14 => ⟨S16384x96, .f32⟩
  | 15 => ⟨S_, .f32⟩
  | 16 => ⟨S16384x96, .f32⟩
  | 17 => ⟨S16384x96, .f32⟩
  | 18 => ⟨S16384x512, .f32⟩
  | 19 => ⟨S16384x8x64, .f32⟩
  | 20 => ⟨S16384x8x64, .f32⟩
  | 21 => ⟨S16384x8x64, .f32⟩
  | 22 => ⟨S16384x8x64, .f32⟩
  | 23 => ⟨S16384x8x64, .f32⟩
  | 24 => ⟨S8x64, .f32⟩
  | 25 => ⟨S1x8x64, .f32⟩
  | 26 => ⟨S16384x8x64, .f32⟩
  | 27 => ⟨S16384x8x64, .f32⟩
  | 28 => ⟨S16384x8x64, .f32⟩
  | 29 => ⟨S_, .f32⟩
  | 30 => ⟨S16384x8, .f32⟩
  | 31 => ⟨S16384x8x1, .f32⟩
  | 32 => ⟨S16384x8x1, .f32⟩
  | 33 => ⟨S_, .f32⟩
  | 34 => ⟨S16384x8x1, .f32⟩
  | 35 => ⟨S16384x8x1, .f32⟩
  | 36 => ⟨S16384x8x64, .f32⟩
  | 37 => ⟨S16384x8x64, .f32⟩
  | 38 => ⟨S_, .f32⟩
  | 39 => ⟨S16384x8x64, .f32⟩
  | 40 => ⟨S16384x8x64, .f32⟩
  | 41 => ⟨S8x64, .f32⟩
  | 42 => ⟨S1x8x64, .f32⟩
  | 43 => ⟨S16384x8x64, .f32⟩
  | 44 => ⟨S16384x8x64, .f32⟩
  | 45 => ⟨S_, .f32⟩
  | 46 => ⟨S16384x8x64, .f32⟩
  | 47 => ⟨S16384x8x64, .f32⟩
  | 48 => ⟨S16384x8x64, .f32⟩
  | 49 => ⟨S_, .f32⟩
  | 50 => ⟨S8x64x64, .f32⟩
  | 51 => ⟨S_, .f32⟩
  | 52 => ⟨S16384x8x64, .f32⟩
  | 53 => ⟨S_, .i32⟩
  | 54 => ⟨S16384x8x64, .f32⟩
  | 55 => ⟨S16384x8x64, .f32⟩
  | 56 => ⟨S16384x8x64, .f32⟩
  | 57 => ⟨S16384x8x64, .f32⟩
  | 58 => ⟨S16384x8x64, .f32⟩
  | 59 => ⟨S16384x8x64, .f32⟩
  | 60 => ⟨S_, .i32⟩
  | 61 => ⟨S8x64x64, .f32⟩
  | 62 => ⟨S16384x8x64, .f32⟩
  | 63 => ⟨S_, .i32⟩
  | 64 => ⟨S_, .i1⟩
  | 65 => ⟨S_, .i32⟩
  | 66 => ⟨S_, .i32⟩
  | 67 => ⟨S1x8x64, .f32⟩
  | 68 => ⟨S8x64, .f32⟩
  | 69 => ⟨S_, .i32⟩
  | 70 => ⟨S_, .i32⟩
  | 71 => ⟨S1x8x64, .f32⟩
  | 72 => ⟨S8x64, .f32⟩
  | 73 => ⟨S_, .i32⟩
  | 74 => ⟨S_, .i32⟩
  | 75 => ⟨S1x8x64, .f32⟩
  | 76 => ⟨S8x64, .f32⟩
  | 77 => ⟨S_, .i32⟩
  | 78 => ⟨S_, .i32⟩
  | 79 => ⟨S1x8x64, .f32⟩
  | 80 => ⟨S8x64, .f32⟩
  | 81 => ⟨S_, .i32⟩
  | 82 => ⟨S_, .i32⟩
  | 83 => ⟨S1x8x64, .f32⟩
  | 84 => ⟨S8x64, .f32⟩
  | 85 => ⟨S_, .i32⟩
  | 86 => ⟨S_, .i32⟩
  | 87 => ⟨S1x8x64, .f32⟩
  | 88 => ⟨S8x64, .f32⟩
  | 89 => ⟨S8x64, .f32⟩
  | 90 => ⟨S8x64, .f32⟩
  | 91 => ⟨S8x1x64, .f32⟩
  | 92 => ⟨S8x64x64, .f32⟩
  | 93 => ⟨S8x64x64, .f32⟩
  | 94 => ⟨S8x64x1, .f32⟩
  | 95 => ⟨S8x64, .f32⟩
  | 96 => ⟨S8x1x64, .f32⟩
  | 97 => ⟨S8x64x64, .f32⟩
  | 98 => ⟨S8x64x64, .f32⟩
  | 99 => ⟨S8x64x64, .f32⟩
  | 100 => ⟨S8x64x64, .f32⟩
  | 101 => ⟨S8x64x1, .f32⟩
  | 102 => ⟨S8x1x64, .f32⟩
  | 103 => ⟨S8x64x64, .f32⟩
  | 104 => ⟨S8x64x64, .f32⟩
  | 105 => ⟨S8x64x64, .f32⟩
  | 106 => ⟨S8x64x64, .f32⟩
  | 107 => ⟨S8x64, .f32⟩
  | 108 => ⟨S1x8x64, .f32⟩
  | 109 => ⟨S_, .i32⟩
  | 110 => ⟨S_, .i32⟩
  | 111 => ⟨S16384x8x64, .f32⟩
  | 112 => ⟨S_, .i32⟩
  | 113 => ⟨S_, .i32⟩
  | 114 => ⟨S_, .f32⟩
  | 115 => ⟨S16384x8, .f32⟩
  | 116 => ⟨S16384x8x1, .f32⟩
  | 117 => ⟨S_, .f32⟩
  | 118 => ⟨S16384x8x1, .f32⟩
  | 119 => ⟨S16384x8x1, .f32⟩
  | 120 => ⟨S16384x8x64, .f32⟩
  | 121 => ⟨S16384x8x64, .f32⟩
  | 122 => ⟨S16384x8x64, .f32⟩
  | 123 => ⟨S_, .f32⟩
  | 124 => ⟨S16384x8, .f32⟩
  | 125 => ⟨S16384x8x1, .f32⟩
  | 126 => ⟨S_, .f32⟩
  | 127 => ⟨S16384x8x1, .f32⟩
  | _ => ⟨S16384x1024, .f32⟩

abbrev hbmTy0_2 (i : Nat) : BufTy := match i % 128 with
  | 0 => ⟨S16384x8x1, .f32⟩
  | 1 => ⟨S16384x8x64, .f32⟩
  | 2 => ⟨S16384x8x64, .f32⟩
  | 3 => ⟨S_, .f32⟩
  | 4 => ⟨S16384x8x1, .f32⟩
  | 5 => ⟨S16384x8x1, .f32⟩
  | 6 => ⟨S16384x8x1, .f32⟩
  | 7 => ⟨S16384x8x64, .f32⟩
  | 8 => ⟨S16384x8x64, .f32⟩
  | 9 => ⟨S16384x512, .f32⟩
  | 10 => ⟨S1x512, .f32⟩
  | 11 => ⟨S16384x512, .f32⟩
  | 12 => ⟨S16384x512, .f32⟩
  | 13 => ⟨S1x512, .f32⟩
  | 14 => ⟨S16384x512, .f32⟩
  | 15 => ⟨S16384x512, .f32⟩
  | 16 => ⟨S16384x8x64, .f32⟩
  | 17 => ⟨S1x8x64, .f32⟩
  | 18 => ⟨S16384x8x64, .f32⟩
  | 19 => ⟨S16384x8x64, .f32⟩
  | 20 => ⟨S_, .f32⟩
  | 21 => ⟨S16384x8, .f32⟩
  | 22 => ⟨S16384x8x1, .f32⟩
  | 23 => ⟨S16384x8x64, .f32⟩
  | 24 => ⟨S16384x8x64, .f32⟩
  | 25 => ⟨S16384x512, .f32⟩
  | 26 => ⟨S16384x512, .f32⟩
  | 27 => ⟨S16384x512, .f32⟩
  | 28 => ⟨S16384x1024, .f32⟩
  | 29 => ⟨S16384x1024, .f32⟩
  | 30 => ⟨S1x1x1024, .f32⟩
  | 31 => ⟨S1x1024, .f32⟩
  | 32 => ⟨S16384x1024, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S1024x2816, .bf16⟩
  | 52 => ⟨S1024x2816, .bf16⟩
  | 53 => ⟨S2816x1024, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_call0_v0 : Ref sig .tc := ⟨.hbm, 57, rfl⟩
abbrev main_v31 : Ref sig .tc := ⟨.hbm, 58, rfl⟩
abbrev main_v32 : Ref sig .tc := ⟨.hbm, 59, rfl⟩
abbrev main_c_3 : Ref sig .tc := ⟨.hbm, 60, rfl⟩
abbrev main_call1_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_4 : Ref sig .tc := ⟨.hbm, 69, rfl⟩
abbrev main_call2_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_5 : Ref sig .tc := ⟨.hbm, 84, rfl⟩
abbrev main_call3_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_v72 : Ref sig .tc := ⟨.hbm, 118, rfl⟩
abbrev main_v73 : Ref sig .tc := ⟨.hbm, 119, rfl⟩
abbrev main_cst_6 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_7 : Ref sig .tc := ⟨.hbm, 132, rfl⟩
abbrev main_v85 : Ref sig .tc := ⟨.hbm, 133, rfl⟩
abbrev main_v86 : Ref sig .tc := ⟨.hbm, 134, rfl⟩
abbrev main_cst_8 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_9 : Ref sig .tc := ⟨.hbm, 140, rfl⟩
abbrev main_v91 : Ref sig .tc := ⟨.hbm, 141, rfl⟩
abbrev main_v92 : Ref sig .tc := ⟨.hbm, 142, rfl⟩
abbrev main_cst_10 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_11 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_12 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_13 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_14 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_15 : Ref sig .tc := ⟨.hbm, 177, rfl⟩
abbrev main_v122 : Ref sig .tc := ⟨.hbm, 178, rfl⟩
abbrev main_cst_16 : Ref sig .tc := ⟨.hbm, 179, rfl⟩
abbrev main_v123 : Ref sig .tc := ⟨.hbm, 180, rfl⟩
abbrev main_c_17 : Ref sig .tc := ⟨.hbm, 181, rfl⟩
abbrev main_v124_0 : Ref sig .tc := ⟨.hbm, 182, rfl⟩
abbrev main_v124_1 : Ref sig .tc := ⟨.hbm, 183, rfl⟩
abbrev main_v124_2 : Ref sig .tc := ⟨.hbm, 184, rfl⟩
abbrev main_v124_3 : Ref sig .tc := ⟨.hbm, 185, rfl⟩
abbrev main_v124_4 : Ref sig .tc := ⟨.hbm, 186, rfl⟩
abbrev main_v124_5 : Ref sig .tc := ⟨.hbm, 187, rfl⟩
abbrev main_v124_6 : Ref sig .tc := ⟨.hbm, 188, rfl⟩
abbrev main_v124_7 : Ref sig .tc := ⟨.hbm, 189, rfl⟩
abbrev main_v124_8 : Ref sig .tc := ⟨.hbm, 190, rfl⟩
abbrev main_while0c_c_35 : Ref sig .tc := ⟨.hbm, 191, rfl⟩
abbrev main_while0c_v184 : Ref sig .tc := ⟨.hbm, 192, rfl⟩
abbrev main_while0b_call5_c : Ref sig .tc := ⟨.hbm, 193, rfl⟩
abbrev main_while0b_call5_c_0 : Ref sig .tc := ⟨.hbm, 194, rfl⟩
abbrev main_while0b_call5_v0 : Ref sig .tc := ⟨.hbm, 195, rfl⟩
abbrev main_while0b_v184 : Ref sig .tc := ⟨.hbm, 196, rfl⟩
abbrev main_while0b_call6_c : Ref sig .tc := ⟨.hbm, 197, rfl⟩
abbrev main_while0b_call6_c_0 : Ref sig .tc := ⟨.hbm, 198, rfl⟩
abbrev main_while0b_call6_v0 : Ref sig .tc := ⟨.hbm, 199, rfl⟩
abbrev main_while0b_v185 : Ref sig .tc := ⟨.hbm, 200, rfl⟩
abbrev main_while0b_call7_c : Ref sig .tc := ⟨.hbm, 201, rfl⟩
abbrev main_while0b_call7_c_0 : Ref sig .tc := ⟨.hbm, 202, rfl⟩
abbrev main_while0b_call7_v0 : Ref sig .tc := ⟨.hbm, 203, rfl⟩
abbrev main_while0b_v186 : Ref sig .tc := ⟨.hbm, 204, rfl⟩
abbrev main_while0b_call8_c : Ref sig .tc := ⟨.hbm, 205, rfl⟩
abbrev main_while0b_call8_c_0 : Ref sig .tc := ⟨.hbm, 206, rfl⟩
abbrev main_while0b_call8_v0 : Ref sig .tc := ⟨.hbm, 207, rfl⟩
abbrev main_while0b_v187 : Ref sig .tc := ⟨.hbm, 208, rfl⟩
abbrev main_while0b_call9_c : Ref sig .tc := ⟨.hbm, 209, rfl⟩
abbrev main_while0b_call9_c_0 : Ref sig .tc := ⟨.hbm, 210, rfl⟩
abbrev main_while0b_call9_v0 : Ref sig .tc := ⟨.hbm, 211, rfl⟩
abbrev main_while0b_v188 : Ref sig .tc := ⟨.hbm, 212, rfl⟩
abbrev main_while0b_call10_c : Ref sig .tc := ⟨.hbm, 213, rfl⟩
abbrev main_while0b_call10_c_0 : Ref sig .tc := ⟨.hbm, 214, rfl⟩
abbrev main_while0b_call10_v0 : Ref sig .tc := ⟨.hbm, 215, rfl⟩
abbrev main_while0b_v189 : Ref sig .tc := ⟨.hbm, 216, rfl⟩
abbrev main_while0b_v190 : Ref sig .tc := ⟨.hbm, 217, rfl⟩
abbrev main_while0b_v191 : Ref sig .tc := ⟨.hbm, 218, rfl⟩
abbrev main_while0b_v192 : Ref sig .tc := ⟨.hbm, 219, rfl⟩
abbrev main_while0b_v193 : Ref sig .tc := ⟨.hbm, 220, rfl⟩
abbrev main_while0b_v194 : Ref sig .tc := ⟨.hbm, 221, rfl⟩
abbrev main_while0b_v195 : Ref sig .tc := ⟨.hbm, 222, rfl⟩
abbrev main_while0b_v196 : Ref sig .tc := ⟨.hbm, 223, rfl⟩
abbrev main_while0b_v197 : Ref sig .tc := ⟨.hbm, 224, rfl⟩
abbrev main_while0b_v198 : Ref sig .tc := ⟨.hbm, 225, rfl⟩
abbrev main_while0b_v199 : Ref sig .tc := ⟨.hbm, 226, rfl⟩
abbrev main_while0b_v200 : Ref sig .tc := ⟨.hbm, 227, rfl⟩
abbrev main_while0b_v201 : Ref sig .tc := ⟨.hbm, 228, rfl⟩
abbrev main_while0b_v202 : Ref sig .tc := ⟨.hbm, 229, rfl⟩
abbrev main_while0b_v203 : Ref sig .tc := ⟨.hbm, 230, rfl⟩
abbrev main_while0b_v204 : Ref sig .tc := ⟨.hbm, 231, rfl⟩
abbrev main_while0b_v205 : Ref sig .tc := ⟨.hbm, 232, rfl⟩
abbrev main_while0b_v206 : Ref sig .tc := ⟨.hbm, 233, rfl⟩
abbrev main_while0b_v207 : Ref sig .tc := ⟨.hbm, 234, rfl⟩
abbrev main_while0b_v208 : Ref sig .tc := ⟨.hbm, 235, rfl⟩
abbrev main_while0b_call11_v0 : Ref sig .tc := ⟨.hbm, 236, rfl⟩
abbrev main_while0b_call11_c : Ref sig .tc := ⟨.hbm, 237, rfl⟩
abbrev main_while0b_call11_c_0 : Ref sig .tc := ⟨.hbm, 238, rfl⟩
abbrev main_while0b_v209 : Ref sig .tc := ⟨.hbm, 239, rfl⟩
abbrev main_while0b_c_35 : Ref sig .tc := ⟨.hbm, 240, rfl⟩
abbrev main_while0b_v210 : Ref sig .tc := ⟨.hbm, 241, rfl⟩
abbrev main_cst_18 : Ref sig .tc := ⟨.hbm, 242, rfl⟩
abbrev main_v125 : Ref sig .tc := ⟨.hbm, 243, rfl⟩
abbrev main_v126 : Ref sig .tc := ⟨.hbm, 244, rfl⟩
abbrev main_cst_19 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_cst_20 : Ref sig .tc := ⟨.hbm, 251, rfl⟩
abbrev main_v132 : Ref sig .tc := ⟨.hbm, 252, rfl⟩
abbrev main_v133 : Ref sig .tc := ⟨.hbm, 253, rfl⟩
abbrev main_cst_21 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_cst_22 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_cst_23 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_cst_24 : Ref sig .tc := ⟨.hbm, 289, rfl⟩
abbrev main_v166 : Ref sig .tc := ⟨.hbm, 290, rfl⟩
abbrev main_v167 : Ref sig .tc := ⟨.hbm, 291, rfl⟩
abbrev main_cst_25 : Ref sig .tc := ⟨.hbm, 292, rfl⟩
abbrev main_v168 : Ref sig .tc := ⟨.hbm, 293, rfl⟩
abbrev main_v169 : Ref sig .tc := ⟨.hbm, 294, rfl⟩
abbrev main_cst_26 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩

abbrev nD : Nat := 1
abbrev τ : Topo := Topo.v7x

variable {F : FTy → Type} [FloatOps F]

abbrev main_while0_count : Scf.Loop 32 := ⟨0#32, 16384#32, 1#32⟩
-- ==== Ada.lean ====
abbrev S1024 : Shape := ⟨1, ![1024]⟩
abbrev S1024x9216 : Shape := ⟨2, ![1024, 9216]⟩
abbrev S9216 : Shape := ⟨1, ![9216]⟩
abbrev S1024x1 : Shape := ⟨2, ![1024, 1]⟩
abbrev S9x1x1024 : Shape := ⟨3, ![9, 1, 1024]⟩
abbrev S128x1 : Shape := ⟨2, ![128, 1]⟩
abbrev S128x9216 : Shape := ⟨2, ![128, 9216]⟩
abbrev S1x9216 : Shape := ⟨2, ![1, 9216]⟩
abbrev S1x1x1024 : Shape := ⟨3, ![1, 1, 1024]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024, .f32⟩
  | .hbm, ⟨1, _⟩ => ⟨S1024x9216, .f32⟩
  | .hbm, ⟨2, _⟩ => ⟨S9216, .f32⟩
  | .hbm, ⟨3, _⟩ => ⟨S1024x1, .f32⟩
  | .hbm, ⟨4, _⟩ => ⟨S9x1x1024, .f32⟩
  | .hbm, ⟨5, _⟩ => ⟨S9x1x1024, .f32⟩
  | .local _ .vmem, ⟨0, _⟩ => ⟨S128x1, .f32⟩
  | .local _ .vmem, ⟨1, _⟩ => ⟨S128x1, .f32⟩
  | .local _ .vmem, ⟨2, _⟩ => ⟨S128x9216, .f32⟩
  | .local _ .vmem, ⟨3, _⟩ => ⟨S128x9216, .f32⟩
  | .local _ .vmem, ⟨4, _⟩ => ⟨S9x1x1024, .f32⟩
  | .local _ .vmem, ⟨5, _⟩ => ⟨S9x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AdaRefIdeal.lean ====
abbrev S1024 : Shape := ⟨1, ![1024]⟩
abbrev S1024x9216 : Shape := ⟨2, ![1024, 9216]⟩
abbrev S9216 : Shape := ⟨1, ![9216]⟩
abbrev S_ : Shape := ⟨0, ![]⟩
abbrev S9x1x1024 : Shape := ⟨3, ![9, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024x9216, .f32⟩
  | .hbm, ⟨2, _⟩ => ⟨S9216, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S9216, .f32⟩
  | .hbm, ⟨13, _⟩ => ⟨S9216, .f32⟩
  | .hbm, ⟨14, _⟩ => ⟨S9x1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== First.lean ====
abbrev S16384x1024 : Shape := ⟨2, ![16384, 1024]⟩
abbrev S9x1x1024 : Shape := ⟨3, ![9, 1, 1024]⟩
abbrev S1024 : Shape := ⟨1, ![1024]⟩
abbrev S1024x2816 : Shape := ⟨2, ![1024, 2816]⟩
abbrev S2816x1024 : Shape := ⟨2, ![2816, 1024]⟩
abbrev S1024x3232 : Shape := ⟨2, ![1024, 3232]⟩
abbrev S1024x1024 : Shape := ⟨2, ![1024, 1024]⟩
abbrev S1x1024 : Shape := ⟨2, ![1, 1024]⟩
abbrev S1024x3072 : Shape := ⟨2, ![1024, 3072]⟩
abbrev S64x3232 : Shape := ⟨2, ![64, 3232]⟩
abbrev S64x1024 : Shape := ⟨2, ![64, 1024]⟩
abbrev S64x3072 : Shape := ⟨2, ![64, 3072]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S2816x256 : Shape := ⟨2, ![2816, 256]⟩

abbrev nBuf : Space → Nat
  | .hbm => 17
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S9x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x3232, .f32⟩
  | .hbm, ⟨8, _⟩ => ⟨S1024x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S16384x1024, .f32⟩
  | .hbm, ⟨15, _⟩ => ⟨S1024x3072, .bf16⟩
  | .hbm, ⟨16, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S9x1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S64x3232, .f32⟩
  | .local _ .vmem, ⟨9, _⟩ => ⟨S64x3232, .f32⟩
  | .local _ .vmem, ⟨10, _⟩ => ⟨S64x1024, .f32⟩
  | .local _ .vmem, ⟨11, _⟩ => ⟨S64x1024, .f32⟩
  | .local _ .vmem, ⟨12, _⟩ => ⟨S1024x1024, .f32⟩
  | .local _ .vmem, ⟨13, _⟩ => ⟨S1024x1024, .f32⟩
  | .local _ .vmem, ⟨14, _⟩ => ⟨S64x3072, .bf16⟩
  | .local _ .vmem, ⟨15, _⟩ => ⟨S64x3072, .bf16⟩
  | .local _ .vmem, ⟨16, _⟩ => ⟨S64x1024, .bf16⟩
  | .local _ .vmem, ⟨17, _⟩ => ⟨S64x1024, .bf16⟩
  | .local _ .vmem, ⟨18, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x3232 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FirstRefIdeal.lean ====
abbrev S16384x1024 : Shape := ⟨2, ![16384, 1024]⟩
abbrev S9x1x1024 : Shape := ⟨3, ![9, 1, 1024]⟩
abbrev S1024 : Shape := ⟨1, ![1024]⟩
abbrev S1024x2816 : Shape := ⟨2, ![1024, 2816]⟩
abbrev S2816x1024 : Shape := ⟨2, ![2816, 1024]⟩
abbrev S1024x3232 : Shape := ⟨2, ![1024, 3232]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024x3072 : Shape := ⟨2, ![1024, 3072]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x3232, .f32⟩
  | .hbm, ⟨8, _⟩ => ⟨S1024x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S1x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S1x1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S1024x3072, .f32⟩
  | .hbm, ⟨74, _⟩ => ⟨S1024x3072, .bf16⟩
  | .hbm, ⟨75, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Around.lean ====
abbrev S16384x1024 : Shape := ⟨2, ![16384, 1024]⟩
abbrev S1024 : Shape := ⟨1, ![1024]⟩
abbrev S1024x9216 : Shape := ⟨2, ![1024, 9216]⟩
abbrev S9216 : Shape := ⟨1, ![9216]⟩
abbrev S1024x2816 : Shape := ⟨2, ![1024, 2816]⟩
abbrev S2816x1024 : Shape := ⟨2, ![2816, 1024]⟩
abbrev S1024x3232 : Shape := ⟨2, ![1024, 3232]⟩
abbrev S1024x1024 : Shape := ⟨2, ![1024, 1024]⟩
abbrev S1024x1 : Shape := ⟨2, ![1024, 1]⟩
abbrev S9x1x1024 : Shape := ⟨3, ![9, 1, 1024]⟩
abbrev S128x1 : Shape := ⟨2, ![128, 1]⟩
abbrev S128x9216 : Shape := ⟨2, ![128, 9216]⟩
abbrev S1x9216 : Shape := ⟨2, ![1, 9216]⟩
abbrev S1x1x1024 : Shape := ⟨3, ![1, 1, 1024]⟩
abbrev S1x1024 : Shape := ⟨2, ![1, 1024]⟩
abbrev S1024x3072 : Shape := ⟨2, ![1024, 3072]⟩
abbrev S64x3232 : Shape := ⟨2, ![64, 3232]⟩
abbrev S64x1024 : Shape := ⟨2, ![64, 1024]⟩
abbrev S64x3072 : Shape := ⟨2, ![64, 3072]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S2816x256 : Shape := ⟨2, ![2816, 256]⟩

abbrev nBuf : Space → Nat
  | .hbm => 34
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .f32⟩
  | .hbm, ⟨3, _⟩ => ⟨S9216, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x3232, .f32⟩
  | .hbm, ⟨10, _⟩ => ⟨S1024x1024, .f32⟩
  | .hbm, ⟨11, _⟩ => ⟨S16384x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024, .f32⟩
  | .hbm, ⟨17, _⟩ => ⟨S1024x1, .f32⟩
  | .hbm, ⟨18, _⟩ => ⟨S9x1x1024, .f32⟩
  | .hbm, ⟨19, _⟩ => ⟨S9x1x1024, .f32⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16384x1024, .f32⟩
  | .hbm, ⟨26, _⟩ => ⟨S1024x3072, .bf16⟩
  | .hbm, ⟨27, _⟩ => ⟨S1024x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .hbm, ⟨31, _⟩ => ⟨S1x1024, .f32⟩
  | .hbm, ⟨32, _⟩ => ⟨S1x1024, .f32⟩
  | .hbm, ⟨33, _⟩ => ⟨S16384x1024, .f32⟩
  | .local _ .vmem, ⟨0, _⟩ => ⟨S128x1, .f32⟩
  | .local _ .vmem, ⟨1, _⟩ => ⟨S128x1, .f32⟩
  | .local _ .vmem, ⟨2, _⟩ => ⟨S128x9216, .f32⟩
  | .local _ .vmem, ⟨3, _⟩ => ⟨S128x9216, .f32⟩
  | .local _ .vmem, ⟨4, _⟩ => ⟨S9x1x1024, .f32⟩
  | .local _ .vmem, ⟨5, _⟩ => ⟨S9x1x1024, .f32⟩
  | .local _ .vmem, ⟨6, _⟩ => ⟨S1024x1024, .f32⟩
  | .local _ .vmem, ⟨7, _⟩ => ⟨S1024x1024, .f32⟩
  | .local _ .vmem, ⟨8, _⟩ => ⟨S9x1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S64x3232, .f32⟩
  | .local _ .vmem, ⟨15, _⟩ => ⟨S64x3232, .f32⟩
  | .local _ .vmem, ⟨16, _⟩ => ⟨S64x1024, .f32⟩
  | .local _ .vmem, ⟨17, _⟩ => ⟨S64x1024, .f32⟩
  | .local _ .vmem, ⟨18, _⟩ => ⟨S1024x1024, .f32⟩
  | .local _ .vmem, ⟨19, _⟩ => ⟨S1024x1024, .f32⟩
  | .local _ .vmem, ⟨20, _⟩ => ⟨S64x3072, .bf16⟩
  | .local _ .vmem, ⟨21, _⟩ => ⟨S64x3072, .bf16⟩
  | .local _ .vmem, ⟨22, _⟩ => ⟨S64x1024, .bf16⟩
  | .local _ .vmem, ⟨23, _⟩ => ⟨S64x1024, .bf16⟩
  | .local _ .vmem, ⟨24, _⟩ => ⟨S1024x2816, .bf16⟩
  | .local _ .vmem, ⟨25, _⟩ => ⟨S1024x1024, .f32⟩
  | .local _ .vmem, ⟨26, _⟩ => ⟨S1024x1024, .f32⟩
  | .local _ .vmem, ⟨27, _⟩ => ⟨S9x1x1024, .f32⟩
  | .local _ .vmem, ⟨28, _⟩ => ⟨S1x1024, .f32⟩
  | .local _ .vmem, ⟨29, _⟩ => ⟨S1024x2816, .bf16⟩
  | .local _ .vmem, ⟨30, _⟩ => ⟨S1024x2816, .bf16⟩
  | .local _ .vmem, ⟨31, _⟩ => ⟨S2816x1024, .bf16⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc1_transform_8 (i : grid1.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc1_transform_11 (i : grid1.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2816 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S64x3232 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x3072 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x2816 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AroundRefIdeal.lean ====
abbrev S16384x1024 : Shape := ⟨2, ![16384, 1024]⟩
abbrev S1024 : Shape := ⟨1, ![1024]⟩
abbrev S1024x9216 : Shape := ⟨2, ![1024, 9216]⟩
abbrev S9216 : Shape := ⟨1, ![9216]⟩
abbrev S1024x2816 : Shape := ⟨2, ![1024, 2816]⟩
abbrev S2816x1024 : Shape := ⟨2, ![2816, 1024]⟩
abbrev S1024x3232 : Shape := ⟨2, ![1024, 3232]⟩
abbrev S1024x1024 : Shape := ⟨2, ![1024, 1024]⟩
abbrev S_ : Shape := ⟨0, ![]⟩
abbrev S9x1x1024 : Shape := ⟨3, ![9, 1, 1024]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩
abbrev S16384x2816 : Shape := ⟨2, ![16384, 2816]⟩
abbrev S1024x3072 : Shape := ⟨2, ![1024, 3072]⟩

abbrev nBuf : Space → Nat
  | .hbm => 160
  | .vmem => 0
  | .smem => 0
  | _ => 0

abbrev hbmTy0_0 (i : Nat) : BufTy := match i % 128 with
  | 0 => ⟨S16384x1024, .f32⟩
  | 1 => ⟨S1024, .f32⟩
  | 2 => ⟨S1024x9216, .f32⟩
  | 3 => ⟨S9216, .f32⟩
  | 4 => ⟨S1024, .f32⟩
  | 5 => ⟨S1024x2816, .f32⟩
  | 6 => ⟨S1024x2816, .f32⟩
  | 7 => ⟨S2816x1024, .f32⟩
  | 8 => ⟨S1024, .f32⟩
  | 9 => ⟨S1024x3232, .f32⟩
  | 10 => ⟨S1024x1024, .f32⟩
  | 11 => ⟨S16384x1024, .f32⟩
  | 12 => ⟨S1024, .f32⟩
  | 13 => ⟨S1024x2816, .f32⟩
  | 14 => ⟨S1024x2816, .f32⟩
  | 15 => ⟨S2816x1024, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S9216, .f32⟩
  | 27 => ⟨S9216, .f32⟩
  | 28 => ⟨S9x1x1024, .f32⟩
  | 29 => ⟨S1x1x1024, .f32⟩
  | 30 => ⟨S1x1024, .f32⟩
  | 31 => ⟨S1x1x1024, .f32⟩
  | 32 => ⟨S1x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S_, .f32⟩
  | 50 => ⟨S1x1024, .f32⟩
  | 51 => ⟨S1x1024, .f32⟩
  | 52 => ⟨S16384x1024, .f32⟩
  | 53 => ⟨S16384x1024, .f32⟩
  | 54 => ⟨S16384x1024, .f32⟩
  | 55 => ⟨S16384x1024, .f32⟩
  | 56 => ⟨S16384x2816, .f32⟩
  | 57 => ⟨S16384x2816, .f32⟩
  | 58 => ⟨S16384x2816, .f32⟩
  | 59 => ⟨S_, .f32⟩
  | 60 => ⟨S16384x2816, .f32⟩
  | 61 => ⟨S16384x2816, .f32⟩
  | 62 => ⟨S_, .f32⟩
  | 63 => ⟨S16384x2816, .f32⟩
  | 64 => ⟨S16384x2816, .f32⟩
  | 65 => ⟨S16384x2816, .f32⟩
  | 66 => ⟨S16384x2816, .f32⟩
  | 67 => ⟨S16384x2816, .f32⟩
  | 68 => ⟨S16384x1024, .f32⟩
  | 69 => ⟨S1x1x1024, .f32⟩
  | 70 => ⟨S1x1024, .f32⟩
  | 71 => ⟨S_, .f32⟩
  | 72 => ⟨S1x1024, .f32⟩
  | 73 => ⟨S1x1024, .f32⟩
  | 74 => ⟨S16384x1024, .f32⟩
  | 75 => ⟨S_, .f32⟩
  | 76 => ⟨S16384, .f32⟩
  | 77 => ⟨S16384x1, .f32⟩
  | 78 => ⟨S_, .f32⟩
  | 79 => ⟨S16384x1, .f32⟩
  | 80 => ⟨S16384x1, .f32⟩
  | 81 => ⟨S_, .f32⟩
  | 82 => ⟨S16384x1, .f32⟩
  | 83 => ⟨S16384x1, .f32⟩
  | 84 => ⟨S16384x1, .f32⟩
  | 85 => ⟨S16384x1024, .f32⟩
  | 86 => ⟨S16384x1024, .f32⟩
  | 87 => ⟨S1x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S1x1x1024, .f32⟩
  | 94 => ⟨S1x1024, .f32⟩
  | 95 => ⟨S1x1x1024, .f32⟩
  | 96 => ⟨S1x1024, .f32⟩
  | 97 => ⟨S16384x1024, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S16384x1, .f32⟩
  | 108 => ⟨S16384x1024, .f32⟩
  | 109 => ⟨S16384x1024, .f32⟩
  | 110 => ⟨S1x1024, .f32⟩
  | 111 => ⟨S16384x1024, .f32⟩
  | 112 => ⟨S16384x1024, .f32⟩
  | 113 => ⟨S_, .f32⟩
  | 114 => ⟨S1x1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S16384x2816, .f32⟩
  | 121 => ⟨S16384x2816, .f32⟩
  | 122 => ⟨S16384x2816, .f32⟩
  | 123 => ⟨S_, .f32⟩
  | 124 => ⟨S16384x2816, .f32⟩
  | 125 => ⟨S16384x2816, .f32⟩
  | 126 => ⟨S_, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x1024, .f32⟩
  | 5 => ⟨S1x1x1024, .f32⟩
  | 6 => ⟨S1x1024, .f32⟩
  | 7 => ⟨S_, .f32⟩
  | 8 => ⟨S1x1024, .f32⟩
  | 9 => ⟨S1x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S1024x3072, .f32⟩
  | 30 => ⟨S1024x3072, .bf16⟩
  | 31 => ⟨S1024x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_v38 : Ref sig .tc := ⟨.hbm, 77, rfl⟩
abbrev main_cst_5 : Ref sig .tc := ⟨.hbm, 78, rfl⟩
abbrev main_v39 : Ref sig .tc := ⟨.hbm, 79, rfl⟩
abbrev main_v40 : Ref sig .tc := ⟨.hbm, 80, rfl⟩
abbrev main_cst_6 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_7 : Ref sig .tc := ⟨.hbm, 98, rfl⟩
abbrev main_v57 : Ref sig .tc := ⟨.hbm, 99, rfl⟩
abbrev main_v58 : Ref sig .tc := ⟨.hbm, 100, rfl⟩
abbrev main_cst_8 : Ref sig .tc := ⟨.hbm, 101, rfl⟩
abbrev main_v59 : Ref sig .tc := ⟨.hbm, 102, rfl⟩
abbrev main_v60 : Ref sig .tc := ⟨.hbm, 103, rfl⟩
abbrev main_cst_9 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call2_v0 : Ref sig .tc := ⟨.hbm, 121, rfl⟩
abbrev main_call2_v1 : Ref sig .tc := ⟨.hbm, 122, rfl⟩
abbrev main_call2_cst : Ref sig .tc := ⟨.hbm, 123, rfl⟩
abbrev main_call2_v2 : Ref sig .tc := ⟨.hbm, 124, rfl⟩
abbrev main_call2_v3 : Ref sig .tc := ⟨.hbm, 125, rfl⟩
abbrev main_call2_cst_0 : Ref sig .tc := ⟨.hbm, 126, rfl⟩
abbrev main_call2_v4 : Ref sig .tc := ⟨.hbm, 127, rfl⟩
abbrev main_call2_v5 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_11 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_12 : Ref sig .tc := ⟨.hbm, 139, rfl⟩
abbrev main_v85 : Ref sig .tc := ⟨.hbm, 140, rfl⟩
abbrev main_v86 : Ref sig .tc := ⟨.hbm, 141, rfl⟩
abbrev main_cst_13 : Ref sig .tc := ⟨.hbm, 142, rfl⟩
abbrev main_v87 : Ref sig .tc := ⟨.hbm, 143, rfl⟩
abbrev main_v88 : Ref sig .tc := ⟨.hbm, 144, rfl⟩
abbrev main_cst_14 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩

abbrev nD : Nat := 1
abbrev τ : Topo := Topo.v7x

variable {F : FTy → Type} [FloatOps F]
-- ==== Proof.FfnRows.lean ====
module

public import proofs.«01_k».proof.Proof.Gen.FfnIdeal.Skeleton
public import proofs.«01_k».proof.Proof.Gen.FfnRefIdeal.Run
public import Idealize.ShloMosaic.Lib.Pipeline.ValueKit
public import Idealize.ShloMosaic.Lib.Pointwise

/-!
One row of the feed-forward layer, written as functions of the entries of that row, and the same row read off the
reference and off the blocks which the kernel computes: the block of normalised and modulated rows, a block of hidden
activations, and a block of finished rows.
-/

@[expose] public section

set_option maxRecDepth 16384

noncomputable section

namespace Cert.FfnValue

open Idealize.ShloMosaic Idealize.ShloMosaic.TcCoe Idealize.SL.Sem Cert.FfnIdeal Cert.FfnIdeal.Gen

/-- The factor which brings a row of 1024 entries to root mean square one. -/
def scaleOf (x : Fin 1024 → EReal) : EReal :=
  Ideal.rsqrt (Ideal.div (∑ k, x k * x k) (Ideal.ofBits FTy.f32 1149239296#32) + Ideal.ofBits FTy.f32 897988541#32)

/-- A row normalised, then scaled and shifted by the conditioning rows. -/
def modRow (x g sh sc : Fin 1024 → EReal) (k : Fin 1024) : EReal :=
  x k * scaleOf x * g k * (1 + sc k) + sh k

/-- One hidden activation: the gated product of the two projections of the row. -/
def actOf (u : Fin 1024 → EReal) (a b : Fin 1024 → EReal) : EReal :=
  (∑ k, u k * a k) * Ideal.div 1 (1 + Ideal.exp (-∑ k, u k * a k)) * ∑ k, u k * b k

/-- An entry of the finished row, `y` being the row after the second projection. -/
def outRow (x gt g y : Fin 1024 → EReal) (l : Fin 1024) : EReal :=
  x l + Ideal.ofBits FTy.f32 0x3F000000#32 * gt l * (y l * scaleOf y * g l)

/-- The finished array over the arguments of the layer, `p`, `q` and `s` being the conditioning rows which shift, scale and gate. -/
def layer (p q s : Fin 9) (x : FVec Ideal Cert.FfnRefIdeal.S16384x1024 .f32)
    (ada : FVec Ideal Cert.FfnRefIdeal.S9x1x1024 .f32) (g g' : FVec Ideal Cert.FfnRefIdeal.S1024 .f32)
    (w1 w3 : FVec Ideal Cert.FfnRefIdeal.S1024x2816 .f32) (w2 : FVec Ideal Cert.FfnRefIdeal.S2816x1024 .f32)
    (r : Fin 16384) (l : Fin 1024) : EReal :=
  outRow (fun k => x (ix2 r k)) (fun k => ada (ix3 s 0 k)) (fun k => g' (ix1 k))
    (fun n => ∑ f, actOf (modRow (fun k => x (ix2 r k)) (fun k => g (ix1 k)) (fun k => ada (ix3 p 0 k)) fun k => ada (ix3 q 0 k))
      (fun k => w1 (ix2 k f)) (fun k => w3 (ix2 k f)) * w2 (ix2 f n)) l

/-- The finished row as the reference computes it. -/
theorem ref_row (m : (ℓ : Loc Cert.FfnRefIdeal.nD Cert.FfnRefIdeal.τ Cert.FfnRefIdeal.sig) → Buf (Elt Ideal) ℓ)
    (c : Dev Cert.FfnRefIdeal.nD) (x : FVec Ideal Cert.FfnRefIdeal.S16384x1024 .f32)
    (ada : FVec Ideal Cert.FfnRefIdeal.S9x1x1024 .f32) (g g' : FVec Ideal Cert.FfnRefIdeal.S1024 .f32)
    (w1 w3 : FVec Ideal Cert.FfnRefIdeal.S1024x2816 .f32) (w2 : FVec Ideal Cert.FfnRefIdeal.S2816x1024 .f32)
    (h0 : m (c.tc.loc Cert.FfnRefIdeal.main_arg0) = x) (h1 : m (c.tc.loc Cert.FfnRefIdeal.main_arg1) = ada)
    (h2 : m (c.tc.loc Cert.FfnRefIdeal.main_arg2) = g) (h3 : m (c.tc.loc Cert.FfnRefIdeal.main_arg3) = w1)
    (h4 : m (c.tc.loc Cert.FfnRefIdeal.main_arg4) = w3) (h5 : m (c.tc.loc Cert.FfnRefIdeal.main_arg5) = w2)
    (h6 : m (c.tc.loc Cert.FfnRefIdeal.main_arg6) = g') (r : Fin 16384) (l : Fin 1024) :
    (Cert.FfnRefIdeal.Value.res_main_v47 m c : FVec Ideal Cert.FfnRefIdeal.S16384x1024 .f32) (ix2 r l)
      = layer 6 7 8 x ada g g' w1 w3 w2 r l := by
  unfold Cert.FfnRefIdeal.Value.res_main_v47
  rw [h0, h1, h2, h3, h4, h5, h6]
  pointwise []
  rfl

/-- A normalised and modulated block, at an entry. -/
theorem mod_at (sh sc : Vec Ideal S1x1x1024 .f32) (g : Vec Ideal S1x1024 .f32) (x : Vec Ideal S256x1024 .f32) (r : Fin 256) (k : Fin 1024) :
    (k0_pay7 sh sc g x : FVec Ideal S256x1024 .bf16) (ix2 r k)
      = modRow (fun k => x (ix2 r k)) (fun k => g (ix2 0 k)) (fun k => sh (ix3 0 0 k)) (fun k => sc (ix3 0 0 k)) k := by
  pointwise [k0_pay7, k0_pay2, k0_pay3, k0_pay5]
  rfl

/-- A block of hidden activations, at an entry. -/
theorem act_at (u : FVec Ideal S256x1024 .bf16) (a b : Vec Ideal S1024x256 .bf16) (r f : Fin 256) :
    (k0_pay11 u a b : FVec Ideal S256x256 .bf16) (ix2 r f)
      = actOf (fun k => u (ix2 r k)) (fun k => a (ix2 k f)) (fun k => b (ix2 k f)) := by
  pointwise [k0_pay11]
  rfl

/-- A quarter of the columns of the second projection, at an entry. -/
theorem proj_at (u : Vec Ideal S256x2816 .bf16) (b : Vec Ideal S2816x256 .bf16) (r f : Fin 256) :
    (k0_pay84 u b : FVec Ideal S256x256 .f32) (ix2 r f) = ∑ k, u (ix2 r k) * b (ix2 k f) := by
  pointwise [k0_pay84]

/-- A block of finished rows, at an entry. -/
theorem out_at (gt : Vec Ideal S1x1x1024 .f32) (g : Vec Ideal S1x1024 .f32) (x : Vec Ideal S256x1024 .f32) (y0 y1 y2 y3 : FVec Ideal S256x256 .f32)
    (y : FVec Ideal S256x1024 .f32)
    (hy : concatenate S256x1024 1 [⟨S256x256, y0⟩, ⟨S256x256, y1⟩, ⟨S256x256, y2⟩, ⟨S256x256, y3⟩]
      concatenates_S256x256_S256x256_S256x256_S256x256_S256x1024_d1 = y) (r : Fin 256) (l : Fin 1024) :
    (k0_pay65 (k0_pay4 gt) (k0_pay6 g) x y0 y1 y2 y3 : FVec Ideal S256x1024 .f32) (ix2 r l)
      = outRow (fun k => x (ix2 r k)) (fun k => gt (ix3 0 0 k)) (fun k => g (ix2 0 k)) (fun k => y (ix2 r k)) l := by
  unfold k0_pay65
  rw [hy]
  pointwise [k0_pay4, k0_pay6]
  rfl

end Cert.FfnValue

end
-- ==== Proof.FfnTiles.lean ====
module

public import proofs.«01_k».proof.Proof.FfnRows

/-!
The stores of the feed-forward kernel, one at a time: a store of hidden activations holds the entries of the whole
matrix of activations, the rows read back from such stores are rows of that matrix, and a store of finished rows holds
the entries of the finished block.
-/

@[expose] public section

set_option maxRecDepth 16384

noncomputable section

namespace Cert.FfnValue

open Idealize.ShloMosaic Idealize.ShloMosaic.TcCoe Idealize.SL.Sem Cert.FfnIdeal Cert.FfnIdeal.Gen

section Block
variable (p q s : Fin 9) (x0 : Vec Ideal S1024x1024 .f32) (x1 : Vec Ideal S9x1x1024 .f32) (x2 : Vec Ideal S1x1024 .f32)
  (x3 x4 : Vec Ideal S1024x2816 .bf16) (x5 : Vec Ideal S2816x1024 .bf16) (x6 : Vec Ideal S1x1024 .f32)

/-- The modulated rows of a block, under the conditioning rows `p` and `q`. -/
def modBlk (r : Fin 1024) : Fin 1024 → EReal :=
  modRow (fun k => x0 (ix2 r k)) (fun k => x2 (ix2 0 k)) (fun k => x1 (ix3 p 0 k)) (fun k => x1 (ix3 q 0 k))

/-- The activations of a block. -/
def actBlk (r : Fin 1024) (f : Fin 2816) : EReal :=
  actOf (modBlk p q x0 x1 x2 r) (fun k => x3 (ix2 k f)) (fun k => x4 (ix2 k f))

/-- The finished rows of a block. -/
def outBlk (r l : Fin 1024) : EReal :=
  outRow (fun k => x0 (ix2 r k)) (fun k => x1 (ix3 s 0 k)) (fun k => x6 (ix2 0 k))
    (fun n => ∑ f, actBlk p q x0 x1 x2 x3 x4 r f * x5 (ix2 f n)) l

/-- A store whose entries are those of the matrix of activations. -/
def Good (d : View.Piece (Elt Ideal) S1024x2816 .bf16) : Prop :=
  ∀ x : d.1.shape.Idx, d.2 x = actBlk p q x0 x1 x2 x3 x4 (d.1.emb x 0) (d.1.emb x 1)

/-- The modulated rows from row `o` on. -/
theorem mod_rows (o : ℕ) (i6 : ∀ a, ![p.val, 0, 0] a + ![1, 1, 1024] a ≤ S9x1x1024.size a)
    (i7 : ∀ a, ![q.val, 0, 0] a + ![1, 1, 1024] a ≤ S9x1x1024.size a) (io : ∀ a, ![o, 0] a + ![256, 1024] a ≤ S1024x1024.size a) (r : Fin 256) (k : Fin 1024) (h : o + r < 1024) :
    (k0_pay7 (View.ld x1 (Rect.unit ![p.val, 0, 0] ![1, 1, 1024] i6)) (View.ld x1 (Rect.unit ![q.val, 0, 0] ![1, 1, 1024] i7)) x2
      (View.ld x0 (Rect.unit ![o, 0] ![256, 1024] io)) : FVec Ideal S256x1024 .bf16) (ix2 r k) = modBlk p q x0 x1 x2 ⟨o + r, h⟩ k := by
  have hx (k : Fin 1024) : View.ld x0 (Rect.unit ![o, 0] ![256, 1024] io) (ix2 r k) = x0 (ix2 ⟨o + r, h⟩ k) :=
    View.ld_unit_apply_of _ _ _ _ _ _ fun a => by fin_cases a <;> simp
  have h6 (k : Fin 1024) : View.ld x1 (Rect.unit ![p.val, 0, 0] ![1, 1, 1024] i6) (ix3 0 0 k) = x1 (ix3 p 0 k) :=
    View.ld_unit_apply_of _ _ _ _ _ _ fun a => by fin_cases a <;> simp
  have h7 (k : Fin 1024) : View.ld x1 (Rect.unit ![q.val, 0, 0] ![1, 1, 1024] i7) (ix3 0 0 k) = x1 (ix3 q 0 k) :=
    View.ld_unit_apply_of _ _ _ _ _ _ fun a => by fin_cases a <;> simp
  rw [mod_at, modBlk, funext hx, funext h6, funext h7]

/-- A store of activations at `(o, e)`. -/
theorem good_act (o e : ℕ) (hb : ∀ a, ![o, e] a + ![256, 256] a ≤ S1024x2816.size a) (i6 : ∀ a, ![p.val, 0, 0] a + ![1, 1, 1024] a ≤ S9x1x1024.size a)
    (i7 : ∀ a, ![q.val, 0, 0] a + ![1, 1, 1024] a ≤ S9x1x1024.size a) (io : ∀ a, ![o, 0] a + ![256, 1024] a ≤ S1024x1024.size a)
    (i3 i4 : ∀ a, ![0, e] a + ![1024, 256] a ≤ S1024x2816.size a) :
    Good p q x0 x1 x2 x3 x4 ⟨Rect.unit ![o, e] ![256, 256] hb, k0_pay11
      (k0_pay7 (View.ld x1 (Rect.unit ![p.val, 0, 0] ![1, 1, 1024] i6)) (View.ld x1 (Rect.unit ![q.val, 0, 0] ![1, 1, 1024] i7)) x2
        (View.ld x0 (Rect.unit ![o, 0] ![256, 1024] io)))
      (View.ld x3 (Rect.unit ![0, e] ![1024, 256] i3)) (View.ld x4 (Rect.unit ![0, e] ![1024, 256] i4))⟩ := by
  intro (x : S256x256.Idx)
  obtain ⟨r, f, rfl⟩ : ∃ r f : Fin 256, x = ix2 r f := ⟨x 0, x 1, by funext a; fin_cases a <;> rfl⟩
  have ho : o + 256 ≤ 1024 := hb 0
  have hp : e + 256 ≤ 2816 := hb 1
  have hr : o + (r : ℕ) < 1024 := by omega
  have hf : e + (f : ℕ) < 2816 := by omega
  have e0 : (Rect.unit (s := S1024x2816) ![o, e] ![256, 256] hb).emb (ix2 r f : S256x256.Idx) 0 = (⟨o + r, hr⟩ : Fin 1024) :=
    Fin.ext (by rw [Rect.emb_apply]; simp)
  have e1 : (Rect.unit (s := S1024x2816) ![o, e] ![256, 256] hb).emb (ix2 r f : S256x256.Idx) 1 = (⟨e + f, hf⟩ : Fin 2816) :=
    Fin.ext (by rw [Rect.emb_apply]; simp)
  show (k0_pay11 _ _ _ : FVec Ideal S256x256 .bf16) (ix2 r f) = actBlk p q x0 x1 x2 x3 x4 _ _
  rw [e0, e1, act_at, actBlk]
  have h3 (k : Fin 1024) : View.ld x3 (Rect.unit ![0, e] ![1024, 256] i3) (ix2 k f) = x3 (ix2 k ⟨e + f, hf⟩) :=
    View.ld_unit_apply_of _ _ _ _ _ _ fun a => by fin_cases a <;> simp
  have h4 (k : Fin 1024) : View.ld x4 (Rect.unit ![0, e] ![1024, 256] i4) (ix2 k f) = x4 (ix2 k ⟨e + f, hf⟩) :=
    View.ld_unit_apply_of _ _ _ _ _ _ fun a => by fin_cases a <;> simp
  rw [funext h3, funext h4, funext fun k => mod_rows p q x0 x1 x2 o i6 i7 io r k hr]

/-- Whether the stores hold all of the 256 rows from row `o` on. -/
def holdsRows (o : ℕ) (L : List (View.Piece (Elt Ideal) S1024x2816 .bf16)) : Bool :=
  (List.range 11).all fun j => L.any fun p => p.1.off 0 == o && p.1.off 1 == 256 * j && p.1.size 0 == 256 && p.1.size 1 == 256
    && p.1.stride 0 == 1 && p.1.stride 1 == 1

/-- Rows read back from good stores are rows of the matrix of activations. -/
theorem rows_back {κ sp} {sg : RefSig} (v : View sg κ sp S1024x2816 .bf16) (o : ℕ) (io : ∀ a, ![o, 0] a + ![256, 2816] a ≤ S1024x2816.size a) (L : List (View.Piece (Elt Ideal) S1024x2816 .bf16))
    (hL : holdsRows o L = true) (hg : ∀ d ∈ L, Good p q x0 x1 x2 x3 x4 d) (r : Fin 256) (f : Fin 2816) (h : o + r < 1024) :
    (v.readCov (Val := Elt Ideal) L (Rect.unit (s := S1024x2816) ![o, 0] ![256, 2816] io).toLoadRect : S256x2816.Idx → EReal) (ix2 r f)
      = actBlk p q x0 x1 x2 x3 x4 ⟨o + r, h⟩ f := by
  rw [View.readCov_eq_canon']
  have e : (Rect.unit (s := S1024x2816) ![o, 0] ![256, 2816] io).toLoadRect.idx (ix2 r f : S256x2816.Idx)
      = (ix2 (⟨o + r, h⟩ : Fin 1024) f : S1024x2816.Idx) := by
    funext a; apply Fin.ext; rw [Rect.idx_unit_val]; fin_cases a <;> simp
  show View.canon L ((Rect.unit (s := S1024x2816) ![o, 0] ![256, 2816] io).toLoadRect.idx (ix2 r f : S256x2816.Idx)) = _
  rw [e]
  refine View.canon_eq_of_allAt _ _ _ ?_ fun d hp x hx => ?_
  · simp only [holdsRows, List.all_eq_true, List.mem_range, List.any_eq_true, Bool.and_eq_true, beq_iff_eq] at hL
    obtain ⟨d, hp, ⟨⟨⟨⟨h0, h1⟩, h2⟩, h3⟩, h4⟩, h5⟩ := hL (f / 256) (by omega)
    refine ⟨d, hp, ?_⟩
    rw [LoadRect.mem_set]
    intro a
    fin_cases a
    · exact ⟨r, by simpa [h2] using r.isLt, by simp [h0, h4]⟩
    · refine ⟨f % 256, by simpa [h3] using Nat.mod_lt _ (by norm_num), ?_⟩
      simp [h1, h5]; omega
  · rw [hg d hp x, hx]; rfl

/-- A store of finished rows from row `o` on. -/
theorem out_rows (o : ℕ) (io : ∀ a, ![o, 0] a + ![256, 1024] a ≤ S1024x1024.size a) (i8 : ∀ a, ![s.val, 0, 0] a + ![1, 1, 1024] a ≤ S9x1x1024.size a)
    (j0 : ∀ a, ![0, 0] a + ![2816, 256] a ≤ S2816x1024.size a) (j1 : ∀ a, ![0, 256] a + ![2816, 256] a ≤ S2816x1024.size a)
    (j2 : ∀ a, ![0, 512] a + ![2816, 256] a ≤ S2816x1024.size a) (j3 : ∀ a, ![0, 768] a + ![2816, 256] a ≤ S2816x1024.size a) (R : Vec Ideal S256x2816 .bf16) (y : S1024x1024.Idx)
    (hR : ∀ (r : Fin 256) (f : Fin 2816) (h : o + r < 1024), R (ix2 r f) = actBlk p q x0 x1 x2 x3 x4 ⟨o + r, h⟩ f) :
    View.TileAt (Val := Elt Ideal) (S := S1024x1024) (e := .f32) y ![o, 0] ![256, 1024]
      (k0_pay65 (k0_pay4 (View.ld x1 (Rect.unit ![s.val, 0, 0] ![1, 1, 1024] i8))) (k0_pay6 x6)
        (View.ld x0 (Rect.unit ![o, 0] ![256, 1024] io))
        (k0_pay84 R (View.ld x5 (Rect.unit ![0, 0] ![2816, 256] j0))) (k0_pay84 R (View.ld x5 (Rect.unit ![0, 256] ![2816, 256] j1)))
        (k0_pay84 R (View.ld x5 (Rect.unit ![0, 512] ![2816, 256] j2))) (k0_pay84 R (View.ld x5 (Rect.unit ![0, 768] ![2816, 256] j3))))
      (outBlk p q s x0 x1 x2 x3 x4 x5 x6 (y 0) (y 1)) := by
  intro (x : S256x1024.Idx) hx
  obtain ⟨r, l, rfl⟩ : ∃ (r : Fin 256) (l : Fin 1024), x = ix2 r l := ⟨x 0, x 1, by funext a; fin_cases a <;> rfl⟩
  have h0 : (y 0 : ℕ) = o + r := hx 0
  have h1 : (y 1 : ℕ) = 0 + l := hx 1
  have h : o + (r : ℕ) < 1024 := by have : (y 0 : ℕ) < 1024 := (y 0).isLt; omega
  have e0 : y 0 = (⟨o + r, h⟩ : Fin 1024) := Fin.ext h0
  have e1 : y 1 = l := Fin.ext (by omega)
  rw [e0, e1, out_at _ _ _ _ _ _ _ _ rfl, outBlk]
  have hx0 (k : Fin 1024) : View.ld x0 (Rect.unit ![o, 0] ![256, 1024] io) (ix2 r k) = x0 (ix2 ⟨o + r, h⟩ k) :=
    View.ld_unit_apply_of _ _ _ _ _ _ fun a => by fin_cases a <;> simp
  have h8 (k : Fin 1024) : View.ld x1 (Rect.unit ![s.val, 0, 0] ![1, 1, 1024] i8) (ix3 0 0 k) = x1 (ix3 s 0 k) :=
    View.ld_unit_apply_of _ _ _ _ _ _ fun a => by fin_cases a <;> simp
  rw [funext hx0, funext h8]
  congr 1
  funext n
  have hq (e : ℕ) (j : ∀ a, ![0, e] a + ![2816, 256] a ≤ S2816x1024.size a) (n' : Fin 256) (hn : (n : ℕ) = e + n') :
      (k0_pay84 R (View.ld x5 (Rect.unit ![0, e] ![2816, 256] j)) : FVec Ideal S256x256 .f32) (ix2 r n')
        = ∑ f, actBlk p q x0 x1 x2 x3 x4 ⟨o + r, h⟩ f * x5 (ix2 f n) := by
    rw [proj_at]
    refine Finset.sum_congr rfl fun f _ => ?_
    rw [hR r f h]
    congr 1
    exact View.ld_unit_apply_of _ _ _ _ _ _ fun a => by fin_cases a <;> simp [hn]
  pointwise []
  have hn := n.isLt
  by_cases c1 : (n : ℕ) < 256
  · rw [dif_pos c1]; exact hq 0 j0 _ (by simp)
  rw [dif_neg c1]
  by_cases c2 : (n : ℕ) - 256 < 256
  · rw [dif_pos c2]; exact hq 256 j1 _ (by simp; omega)
  rw [dif_neg c2]
  by_cases c3 : (n : ℕ) - 256 - 256 < 256
  · rw [dif_pos c3]; exact hq 512 j2 _ (by simp; omega)
  rw [dif_neg c3]
  exact hq 768 j3 _ (by simp; omega)

end Block
end Cert.FfnValue

end
-- ==== Proof.FfnPoint.lean ====
module

public import proofs.«01_k».proof.Proof.FfnTiles
public import proofs.«01_k».proof.Proof.Gen.FfnIdeal.Value

/-!
What one grid point of the feed-forward kernel leaves in its output block.
-/

@[expose] public section

set_option maxRecDepth 16384

noncomputable section

namespace Cert.FfnValue

open Idealize.ShloMosaic Idealize.ShloMosaic.TcCoe Idealize.SL.Sem Cert.FfnIdeal Cert.FfnIdeal.Gen

variable (m : (ℓ : Loc nD τ sig) → Buf (Elt Ideal) ℓ)

set_option maxHeartbeats 4000000 in
theorem point (c : Dev nD) (t : Fin cfg0.N) (y : S1024x1024.Idx) :
    (outsAt0 m c t : S1024x1024.Idx → EReal) y
      = outBlk 6 7 8 (iblk m c 0 t) (iblk m c 1 t) (iblk m c 2 t) (iblk m c 3 t) (iblk m c 4 t) (iblk m c 5 t) (iblk m c 6 t) (y 0) (y 1) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_eq_of_allAt _ _ _ (View.cover_of_tiled _ ![256, 1024] (by rfl) y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals refine out_rows 6 7 8 x0 x1 x2 x3 x4 x5 x6 _ _ _ _ _ _ _ _ y fun r f h => ?_
  all_goals refine rows_back 6 7 x0 x1 x2 x3 x4 _ _ _ _ (by rfl) ?_ r f h
  all_goals repeat' (refine List.forall_mem_cons.mpr ⟨?_, ?_⟩)
  all_goals first
    | exact List.forall_mem_nil _
    | exact good_act 6 7 x0 x1 x2 x3 x4 _ _ _ _ _ _ _ _

end Cert.FfnValue

end
-- ==== Proof.FfnValue.lean ====
module

public import proofs.«01_k».proof.Proof.FfnPoint

/-!
The array which the feed-forward kernel leaves: every entry is an entry of the finished row of that index.
-/

@[expose] public section

set_option maxRecDepth 16384

noncomputable section

namespace Cert.FfnValue

open Idealize.ShloMosaic Idealize.ShloMosaic.TcCoe Idealize.SL.Sem Cert.FfnIdeal Cert.FfnIdeal.Gen

variable (m : (ℓ : Loc nD τ sig) → Buf (Elt Ideal) ℓ)

theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![t.val, 0]
    ∧ t.val < 16 :=
  (by decide +kernel : ∀ t : Fin grid0.N, _)

theorem blk0 (c : Dev nD) (t : Fin cfg0.N) (r k : Fin 1024) (h : t.val * 1024 + r < 16384) :
    (iblk m c 0 t : S1024x1024.Idx → EReal) (ix2 r k) = m (c.tc.loc main_arg0) (ix2 ⟨t.val * 1024 + r, h⟩ k) := by
  blk_ext [iblk, V, idx t]
theorem blk1 (c : Dev nD) (t : Fin cfg0.N) (a : Fin 9) (k : Fin 1024) :
    (iblk m c 1 t : S9x1x1024.Idx → EReal) (ix3 a 0 k) = m (c.tc.loc main_arg1) (ix3 a 0 k) := by
  blk_ext [iblk, V, idx t]
theorem blk2 (c : Dev nD) (t : Fin cfg0.N) (k : Fin 1024) :
    (iblk m c 2 t : S1x1024.Idx → EReal) (ix2 0 k) = m (c.tc.loc main_arg2) (ix1 k) := by
  blk_ext! [iblk, V, idx t]
theorem blk3 (c : Dev nD) (t : Fin cfg0.N) (k : Fin 1024) (f : Fin 2816) :
    (iblk m c 3 t : S1024x2816.Idx → EReal) (ix2 k f) = m (c.tc.loc main_arg3) (ix2 k f) := by
  blk_ext! [iblk, V, idx t]
theorem blk4 (c : Dev nD) (t : Fin cfg0.N) (k : Fin 1024) (f : Fin 2816) :
    (iblk m c 4 t : S1024x2816.Idx → EReal) (ix2 k f) = m (c.tc.loc main_arg4) (ix2 k f) := by
  blk_ext! [iblk, V, idx t]
theorem blk5 (c : Dev nD) (t : Fin cfg0.N) (f : Fin 2816) (k : Fin 1024) :
    (iblk m c 5 t : S2816x1024.Idx → EReal) (ix2 f k) = m (c.tc.loc main_arg5) (ix2 f k) := by
  blk_ext! [iblk, V, idx t]
theorem blk6 (c : Dev nD) (t : Fin cfg0.N) (k : Fin 1024) :
    (iblk m c 6 t : S1x1024.Idx → EReal) (ix2 0 k) = m (c.tc.loc main_arg6) (ix1 k) := by
  blk_ext! [iblk, V, idx t]

/-- The array after the last grid point. -/
theorem final (c : Dev nD) : (dats m 0 c).arrAt 7 cfg0.N
    = fun i : S16384x1024.Idx => layer 6 7 8 (m (c.tc.loc main_arg0)) (m (c.tc.loc main_arg1)) (m (c.tc.loc main_arg2))
        (m (c.tc.loc main_arg6)) (m (c.tc.loc main_arg3)) (m (c.tc.loc main_arg4)) (m (c.tc.loc main_arg5)) (i 0) (i 1) := by
  refine (dats m 0 c).arrAt_eq_of_covers 7 _ (by decide +kernel) fun t _ y => ?_
  blk_simp
  rw [after0_7]
  refine (point m c t y).trans ?_
  obtain ⟨r, l, rfl⟩ : ∃ r l : Fin 1024, y = (ix2 r l : S1024x1024.Idx) := ⟨y 0, y 1, by funext a; fin_cases a <;> rfl⟩
  have ht : t.val * 1024 + r < 16384 := by have := (idx t).2.2.2.2.2.2.2.2; omega
  have e0 : (((cfg0.win 7).blk t).view.emb (ix2 r l : S1024x1024.Idx)) 0 = (⟨t.val * 1024 + r, ht⟩ : Fin 16384) := by
    apply Fin.ext; blk_simp [idx t]
  have e1 : (((cfg0.win 7).blk t).view.emb (ix2 r l : S1024x1024.Idx)) 1 = l := by
    apply Fin.ext; blk_simp [idx t]
  show outBlk _ _ _ _ _ _ _ _ _ _ r l = layer _ _ _ _ _ _ _ _ _ _ _ _
  rw [e0, e1]
  unfold outBlk actBlk modBlk layer
  simp only [blk0 m c t _ _ ht, blk1, blk2, blk3, blk4, blk5, blk6]

end Cert.FfnValue

end
-- ==== Proof.AdaValue.lean ====
/- The conditioning rows: what the kernel's grid points accumulate, and the sum they come to. -/
module

public import proofs.«01_k».proof.Proof.Gen.AdaIdeal.Value
public import proofs.«01_k».proof.Proof.Gen.AdaRefIdeal.Run
public import Idealize.ShloMosaic.Lib.Pipeline.ValueKit
public import Idealize.ShloMosaic.Lib.Pointwise

@[expose] public section

set_option maxRecDepth 16384

noncomputable section

namespace Cert.AdaValue

open Idealize.ShloMosaic Idealize.ShloMosaic.TcCoe Idealize.SL.Sem Cert.AdaIdeal Cert.AdaIdeal.Gen

variable (m : (ℓ : Loc nD τ sig) → Buf (Elt Ideal) ℓ)

/-- One row's share of a column: the row's weight against its activated condition. -/
def share (x w : EReal) : EReal := w * (x * Ideal.div 1 (1 + Ideal.exp (-x)))

/-- The column of an entry. -/
def col (a : Fin 9) (k : Fin 1024) : Fin 9216 := ⟨1024 * a + k, by omega⟩

/-- What a grid point adds to an entry. -/
def part (x0 : Vec Ideal S128x1 .f32) (x1 : Vec Ideal S128x9216 .f32) (a : Fin 9) (k : Fin 1024) : EReal :=
  ∑ s : Fin 128, share (x0 (ix2 s 0)) (x1 (ix2 s (col a k)))

/-- An entry with a grid point's sum on top of it. -/
def total (p : Vec Ideal S9x1x1024 .f32) (x0 : Vec Ideal S128x1 .f32) (x1 : Vec Ideal S128x9216 .f32) (y : S9x1x1024.Idx) : EReal :=
  p y + part x0 x1 (y 0) (y 2)

/-- An entry of the block before, and the point's sum, as one entry. -/
theorem entry (p : Vec Ideal S9x1x1024 .f32) (x0 : Vec Ideal S128x1 .f32) (x1 : Vec Ideal S128x9216 .f32) (y : S9x1x1024.Idx)
    (a : Fin 9) (k : Fin 1024) (n : Fin 9216) (h0 : (y 0 : ℕ) = a) (h2 : (y 2 : ℕ) = k) (hn : (n : ℕ) = 1024 * a + k) :
    (p (ix3 a 0 k) : EReal) + ∑ s : Fin 128, (x1 (ix2 s n) : EReal) * (x0 (ix2 s 0) * Ideal.logistic (x0 (ix2 s 0)))
      = total p x0 x1 y := by
  have e : y = (ix3 a 0 k : S9x1x1024.Idx) := by
    funext b
    fin_cases b
    · exact Fin.ext h0
    · exact Subsingleton.elim (α := Fin 1) _ _
    · exact Fin.ext h2
  rw [e, show n = col a k from Fin.ext hn]
  rfl

/-- A later point adds its sum to what the point before it left. -/
theorem step_B (c : Dev nD) (t : Fin cfg0.N) (h : ¬t.val % 8 = 0) (y : S9x1x1024.Idx) :
    (outsAt0 m c t.val t.isLt : S9x1x1024.Idx → EReal) y
     = (outsAt0 m c (t.val - 1) (Nat.lt_of_le_of_lt (Nat.sub_le _ _) t.isLt) : S9x1x1024.Idx → EReal) y
      + part (iblk m c 0 t) (iblk m c 1 t) (y 0) (y 2) := by
  rw [outsAt0_B m c t h]
  frame_out
  generalize outsAt0 m c (t.val - 1) _ = p
  generalize iblk m c 0 t = x0
  generalize iblk m c 1 t = x1
  canon_tiles x hx
  all_goals obtain ⟨z, z', k, rfl⟩ : ∃ z z' k, x = ix3 z z' k := ⟨x 0, x 1, x 2, by funext a; fin_cases a <;> rfl⟩
  all_goals pointwise [k0_pay1, k0_pay2, k0_pay4, k0_pay5, k0_pay6, k0_pay7, k0_pay8, k0_pay9, k0_pay10, k0_pay11, k0_pay12]
  all_goals refine entry p x0 x1 y _ k _ (hx0.trans ?_) hx2 ?_
  all_goals simp

/-- The first `o` rows hold the values `v`, the other rows are still those of `p`. -/
def Done (o : ℕ) (L : List (View.Piece (Elt Ideal) S9x1x1024 .f32)) (p : Vec Ideal S9x1x1024 .f32) (v : S9x1x1024.Idx → EReal) : Prop :=
  ∀ y : S9x1x1024.Idx, (View.canon L y : EReal) = if (y 0 : ℕ) < o then v y else p y

/-- A row stored as a function of the row read before it. -/
theorem Done.next {κ sp} {sg : RefSig} (V : View sg κ sp S9x1x1024 .f32) (o : ℕ) (io : ∀ a, ![o, 0, 0] a + ![1, 1, 1024] a ≤ S9x1x1024.size a)
    (f : Vec Ideal S1x1x1024 .f32 → Vec Ideal S1x1x1024 .f32) {L} {p : Vec Ideal S9x1x1024 .f32} {v : S9x1x1024.Idx → EReal} (hL : Done o L p v)
    (hf : ∀ (ho : o < 9) (k : Fin 1024), (f (View.ld p (Rect.unit (s := S9x1x1024) ![o, 0, 0] ![1, 1, 1024] io)) (ix3 0 0 k) : EReal) = v (ix3 ⟨o, ho⟩ 0 k)) :
    Done (o + 1) (⟨Rect.unit (s := S9x1x1024) ![o, 0, 0] ![1, 1, 1024] io,
      f (V.readCov (Val := Elt Ideal) L (Rect.unit (s := S9x1x1024) ![o, 0, 0] ![1, 1, 1024] io).toLoadRect)⟩ :: L) p v := by
  have ho : o < 9 := by have : o + 1 ≤ 9 := io 0; omega
  have hr : V.readCov (Val := Elt Ideal) L (Rect.unit (s := S9x1x1024) ![o, 0, 0] ![1, 1, 1024] io).toLoadRect
      = View.ld p (Rect.unit (s := S9x1x1024) ![o, 0, 0] ![1, 1, 1024] io) := by
    rw [View.readCov_eq_canon']
    funext x
    refine (hL _).trans (if_neg ?_)
    rw [Rect.idx_unit_val]
    simp
  rw [hr]
  intro y
  by_cases hy : (y 0 : ℕ) = o
  · obtain ⟨a, z, k, rfl⟩ : ∃ (a : Fin 9) (z : Fin 1) (k : Fin 1024), y = ix3 a z k := ⟨y 0, y 1, y 2, by funext a; fin_cases a <;> rfl⟩
    have ha : a = ⟨o, ho⟩ := Fin.ext hy
    obtain rfl : z = 0 := Subsingleton.elim _ _
    subst ha
    refine Eq.trans ?_ (if_pos (show o < o + 1 by omega)).symm
    have e : (ix3 ⟨o, ho⟩ 0 k : S9x1x1024.Idx) = (Rect.unit (s := S9x1x1024) ![o, 0, 0] ![1, 1, 1024] io).emb (ix3 0 0 k : S1x1x1024.Idx) := by
      funext a; apply Fin.ext; rw [Rect.emb_apply]; fin_cases a <;> simp
    rw [← hf ho k, e]
    exact View.canon_cons_emb _ _ _ _
  · rw [View.canon_cons_of_not_mem _ _ (fun hm => by
      have hm' : o ≤ (y 0 : ℕ) ∧ (y 0 : ℕ) < o + 1 := (Rect.mem_set_unit (inb := io)).mp hm 0
      omega)]
    rw [hL y]
    exact if_congr (by omega) rfl rfl

/-- After nine rows every entry is done. -/
theorem Done.all {L} {p : Vec Ideal S9x1x1024 .f32} {v : S9x1x1024.Idx → EReal} (hL : Done 9 L p v) (y : S9x1x1024.Idx) :
    (View.canon L y : EReal) = v y := (hL y).trans (if_pos (y 0).isLt)

/-- An entry of the bias block. -/
def bias (c : Dev nD) (t : Fin cfg0.N) (y : S9x1x1024.Idx) : EReal := iblk m c 2 t y

/-- The first point adds its sum to the bias. -/
theorem step_A (c : Dev nD) (t : Fin cfg0.N) (h : t.val % 8 = 0) (y : S9x1x1024.Idx) :
    (outsAt0 m c t.val t.isLt : S9x1x1024.Idx → EReal) y
     = bias m c t y + part (iblk m c 0 t) (iblk m c 1 t) (y 0) (y 2) := by
  rw [outsAt0_A m c t h]
  unfold bias
  frame_out
  generalize iblk m c 0 t = x0
  generalize iblk m c 1 t = x1
  generalize iblk m c 2 t = p
  refine Done.all (p := p) (v := total p x0 x1) ?_ y
  refine Done.next _ 8 _ (k0_pay2 (k0_pay4 x0 x1)) ?_ ?_
  on_goal 1 => refine Done.next _ 7 _ (k0_pay1 (k0_pay4 x0 x1)) ?_ ?_
  on_goal 1 => refine Done.next _ 6 _ (k0_pay12 (k0_pay4 x0 x1)) ?_ ?_
  on_goal 1 => refine Done.next _ 5 _ (k0_pay11 (k0_pay4 x0 x1)) ?_ ?_
  on_goal 1 => refine Done.next _ 4 _ (k0_pay10 (k0_pay4 x0 x1)) ?_ ?_
  on_goal 1 => refine Done.next _ 3 _ (k0_pay9 (k0_pay4 x0 x1)) ?_ ?_
  on_goal 1 => refine Done.next _ 2 _ (fun q => k0_pay8 (k0_pay7 x0 x1 q)) ?_ ?_
  on_goal 1 => refine Done.next _ 1 _ (k0_pay6 x0 x1) ?_ ?_
  on_goal 1 => refine Done.next _ 0 _ (k0_pay5 x0 x1) ?_ ?_
  · intro y
    rw [if_neg (by omega)]
    rw [View.canon_cons_unit_lit' _ _ _ (by decide)]
    pointwise [k0_pay3]
  all_goals intro ho k
  all_goals pointwise [k0_pay1, k0_pay2, k0_pay4, k0_pay5, k0_pay6, k0_pay7, k0_pay8, k0_pay9, k0_pay10, k0_pay11, k0_pay12]
  all_goals refine entry p x0 x1 _ _ k _ rfl rfl ?_
  all_goals simp

/-- The blocks that a point reads. -/
theorem idx : ∀ t : Fin cfg0.N, win0_0.index t = ![t.val, 0] ∧ win0_1.index t = ![t.val, 0] := (by decide +kernel : ∀ t : Fin grid0.N, _)

/-- The conditioning rows, an entry: the bias and the activated condition against the column of weights. -/
def layer (x : S1024.Idx → EReal) (w : S1024x9216.Idx → EReal) (b : S9216.Idx → EReal) (a : Fin 9) (k : Fin 1024) : EReal :=
  b (ix1 (col a k)) + ∑ j : Fin 1024, share (x (ix1 j)) (w (ix2 j (col a k)))

/-- The first grid point, and the last. -/
def first : Fin cfg0.N := ⟨0, by decide⟩
def last : Fin cfg0.N := ⟨7, by decide⟩

/-- What the last point leaves: the bias and the sums of all points. -/
theorem outs_last (c : Dev nD) (y : S9x1x1024.Idx) : (outsAt0 m c last.val last.isLt : S9x1x1024.Idx → EReal) y
    = bias m c first y + ∑ t : Fin cfg0.N, part (iblk m c 0 t) (iblk m c 1 t) (y 0) (y 2) :=
  Pipeline.eq_sum_fin_of_reset_step_apply_last (fun n h => (outsAt0 m c n h : S9x1x1024.Idx → EReal)) 8
    (bias m c first) (fun t y => part (iblk m c 0 t) (iblk m c 1 t) (y 0) (y 2))
    (fun t h y => by
      obtain rfl : t = first := Fin.ext (by have : t.val < 8 := t.isLt; show t.val = 0; omega)
      exact step_A m c _ h y)
    (fun t h y => step_B m c t h y) (le_of_eq N_0) last rfl y

theorem idx2 : win0_2.index first = ![0, 0, 0] := by decide +kernel

/-- The point's block of the condition. -/
theorem blk0 (c : Dev nD) (t : Fin cfg0.N) (s : Fin 128) (h : t.val * 128 + s < 1024) :
    (iblk m c 0 t : S128x1.Idx → EReal) (ix2 s 0) = (m (c.tc.loc main_arg0) : S1024.Idx → EReal) (ix1 ⟨t.val * 128 + s, h⟩) := by
  blk_point [iblk, V, idx t]

/-- The point's block of the weights. -/
theorem blk1 (c : Dev nD) (t : Fin cfg0.N) (s : Fin 128) (n : Fin 9216) (h : t.val * 128 + s < 1024) :
    (iblk m c 1 t : S128x9216.Idx → EReal) (ix2 s n) = (m (c.tc.loc main_arg1) : S1024x9216.Idx → EReal) (ix2 ⟨t.val * 128 + s, h⟩ n) := by
  blk_ext! [iblk, V, idx t]

/-- The block of the bias. -/
theorem blk2 (c : Dev nD) (a : Fin 9) (z : Fin 1) (k : Fin 1024) :
    bias m c first (ix3 a z k) = (m (c.tc.loc main_arg2) : S9216.Idx → EReal) (ix1 (col a k)) := by
  unfold bias
  blk_point [iblk, V, idx2]
  simp [col]
  omega

/-- The result is the conditioning rows. -/
theorem final (c : Dev nD) : (dats m 0 c).arrAt 3 cfg0.N
    = fun i : S9x1x1024.Idx => layer (m (c.tc.loc main_arg0)) (m (c.tc.loc main_arg1)) (m (c.tc.loc main_arg2)) (i 0) (i 2) := by
  refine (dats m 0 c).arrAt_eq_of_after_last 3 last (by decide +kernel) _ fun y => ?_
  blk_simp
  rw [after0_3]
  refine (outs_last m c _).trans ?_
  obtain ⟨a, z, k, rfl⟩ : ∃ (a : Fin 9) (z : Fin 1) (k : Fin 1024), y = (ix3 a z k : S9x1x1024.Idx) := ⟨y 0, y 1, y 2, by funext a; fin_cases a <;> rfl⟩
  unfold layer
  congr 1
  · exact blk2 m c a z k
  · unfold part
    refine Fin.sum_mul_add_congr (S := cfg0.N) (n := 128) fun (t : Fin cfg0.N) s hl => ?_
    rw [blk0 m c t s hl, blk1 m c t s _ hl]

/-- The reference's rows, at an entry. -/
theorem ref_entry (x : FVec Ideal Cert.AdaRefIdeal.S1024 .f32) (w : FVec Ideal Cert.AdaRefIdeal.S1024x9216 .f32)
    (b : FVec Ideal Cert.AdaRefIdeal.S9216 .f32) (a : Fin 9) (k : Fin 1024) :
    (shapeCast Cert.AdaRefIdeal.S9x1x1024 (addf (Host.dotGeneral Cert.AdaRefIdeal.dot_S1024_S1024x9216_S9216_0_0_n_1_n_n none
      (mulf x (Host.divf (broadcastInDim Cert.AdaRefIdeal.S1024 ![] Cert.AdaRefIdeal.Gen.bcast_S_S1024 (constant Cert.AdaRefIdeal.S_ .f32 0x3F800000#32))
        (addf (broadcastInDim Cert.AdaRefIdeal.S1024 ![] Cert.AdaRefIdeal.Gen.bcast_S_S1024 (constant Cert.AdaRefIdeal.S_ .f32 0x3F800000#32))
          (Host.exp (Host.negf x))))) w) b) Cert.AdaRefIdeal.Gen.shapeCasts_S9216_S9x1x1024 : FVec Ideal Cert.AdaRefIdeal.S9x1x1024 .f32) (ix3 a 0 k)
      = layer x w b a k := by
  pointwise []
  refine (add_comm _ _).trans ?_
  have hc : (⟨a * 1024 + k, by omega⟩ : Fin 9216) = col a k := Fin.ext (by show (a : ℕ) * 1024 + k = 1024 * a + k; omega)
  rw [hc]
  exact congrArg (_ + ·) (Finset.sum_congr rfl fun j _ => mul_comm _ _)

end Cert.AdaValue

end
-- ==== Proof.FirstPoint.lean ====
module

public import proofs.«01_k».proof.Proof.FfnTiles
public import proofs.«01_k».proof.Proof.Gen.FirstIdeal.Value

/-!
What one grid point of the first feed-forward call leaves in its three output blocks: finished rows, and the two blocks
of weights in the narrower format.
-/

@[expose] public section

set_option maxRecDepth 16384

noncomputable section

namespace Cert.FirstValue

open Idealize.ShloMosaic Idealize.ShloMosaic.TcCoe Idealize.SL.Sem Cert.FirstIdeal Cert.FirstIdeal.Gen Cert.FfnValue

variable (m : (ℓ : Loc nD τ sig) → Buf (Elt Ideal) ℓ)

set_option maxHeartbeats 4000000 in
theorem point (c : Dev nD) (t : Fin cfg0.N) (y : S1024x1024.Idx) :
    ((outsAt0 m c t).1 : S1024x1024.Idx → EReal) y
      = outBlk 0 1 2 (iblk m c 0 t) (iblk m c 1 t) (iblk m c 2 t) (iblk m c 3 t) (iblk m c 4 t) (iblk m c 5 t) (iblk m c 6 t) (y 0) (y 1) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_eq_of_allAt _ _ _ (View.cover_of_tiled _ ![256, 1024] (by rfl) y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals refine out_rows 0 1 2 x0 x1 x2 x3 x4 x5 x6 _ _ _ _ _ _ _ _ y fun r f h => ?_
  all_goals refine rows_back 0 1 x0 x1 x2 x3 x4 _ _ _ _ (by rfl) ?_ r f h
  all_goals repeat' (refine List.forall_mem_cons.mpr ⟨?_, ?_⟩)
  all_goals first
    | exact List.forall_mem_nil _
    | exact good_act 0 1 x0 x1 x2 x3 x4 _ _ _ _ _ _ _ _

theorem point_in (c : Dev nD) (t : Fin cfg0.N) (y : S64x3072.Idx) :
    ((outsAt0 m c t).2.1 : S64x3072.Idx → EReal) y
      = (iblk m c 7 t : S64x3232.Idx → EReal) (ix2 (y 0) ⟨(y 1).val, by have : (y 1).val < 3072 := (y 1).isLt; omega⟩) := by
  unfold outsAt0
  frame_out
  show (truncf .bf16 _ _ : FVec Ideal S64x3072 .bf16) y = _
  pointwise []

theorem point_out (c : Dev nD) (t : Fin cfg0.N) (y : S64x1024.Idx) :
    ((outsAt0 m c t).2.2 : S64x1024.Idx → EReal) y = (iblk m c 8 t : S64x1024.Idx → EReal) y := by
  unfold outsAt0
  frame_out
  rfl

end Cert.FirstValue

end
-- ==== Proof.FirstValue.lean ====
module

public import proofs.«01_k».proof.Proof.FirstPoint
public import proofs.«01_k».proof.Proof.Gen.FirstRefIdeal.Run

/-!
The arrays which the first feed-forward call leaves: the finished rows under the first three conditioning rows, and the
two weights of the mixer, one of them without its last columns.
-/

@[expose] public section

set_option maxRecDepth 16384

noncomputable section

namespace Cert.FirstValue

open Idealize.ShloMosaic Idealize.ShloMosaic.TcCoe Idealize.SL.Sem Cert.FirstIdeal Cert.FirstIdeal.Gen Cert.FfnValue

/-- The finished row as the reference computes it. -/
theorem ref_row (m : (ℓ : Loc Cert.FirstRefIdeal.nD Cert.FirstRefIdeal.τ Cert.FirstRefIdeal.sig) → Buf (Elt Ideal) ℓ)
    (c : Dev Cert.FirstRefIdeal.nD) (x : FVec Ideal Cert.FirstRefIdeal.S16384x1024 .f32)
    (ada : FVec Ideal Cert.FirstRefIdeal.S9x1x1024 .f32) (g g' : FVec Ideal Cert.FirstRefIdeal.S1024 .f32)
    (w1 w3 : FVec Ideal Cert.FirstRefIdeal.S1024x2816 .f32) (w2 : FVec Ideal Cert.FirstRefIdeal.S2816x1024 .f32)
    (h0 : m (c.tc.loc Cert.FirstRefIdeal.main_arg0) = x) (h1 : m (c.tc.loc Cert.FirstRefIdeal.main_arg1) = ada)
    (h2 : m (c.tc.loc Cert.FirstRefIdeal.main_arg2) = g) (h3 : m (c.tc.loc Cert.FirstRefIdeal.main_arg3) = w1)
    (h4 : m (c.tc.loc Cert.FirstRefIdeal.main_arg4) = w3) (h5 : m (c.tc.loc Cert.FirstRefIdeal.main_arg5) = w2)
    (h6 : m (c.tc.loc Cert.FirstRefIdeal.main_arg6) = g') (r : Fin 16384) (l : Fin 1024) :
    (Cert.FirstRefIdeal.Value.res_main_v47 m c : FVec Ideal Cert.FirstRefIdeal.S16384x1024 .f32) (ix2 r l)
      = layer 0 1 2 x ada g g' w1 w3 w2 r l := by
  unfold Cert.FirstRefIdeal.Value.res_main_v47
  rw [h0, h1, h2, h3, h4, h5, h6]
  pointwise []
  rfl

/-- An entry among the first 3072 columns of a matrix of 3232 columns. -/
def leftCols (w : FVec Ideal S1024x3232 .f32) (r : Fin 1024) (l : Fin 3072) : EReal :=
  w (ix2 r ⟨l, by omega⟩)

/-- The first columns as the reference takes them. -/
theorem ref_in (w : FVec Ideal Cert.FirstRefIdeal.S1024x3232 .f32) (r : Fin 1024) (l : Fin 3072) :
    (truncf .bf16 (extractStridedSlice Cert.FirstRefIdeal.S1024x3072 ![0, 0] w Cert.FirstRefIdeal.Gen.slices_S1024x3232_S1024x3072_0_0)
      Cert.FirstRefIdeal.Gen.bitsLt_bf16_f32 : FVec Ideal Cert.FirstRefIdeal.S1024x3072 .bf16) (ix2 r l) = leftCols w r l := by
  pointwise [leftCols]

variable (m : (ℓ : Loc nD τ sig) → Buf (Elt Ideal) ℓ)

theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ t.val < 16 :=
  (by decide +kernel : ∀ t : Fin grid0.N, _)

theorem blk0 (c : Dev nD) (t : Fin cfg0.N) (r k : Fin 1024) (h : t.val * 1024 + r < 16384) :
    (iblk m c 0 t : S1024x1024.Idx → EReal) (ix2 r k) = m (c.tc.loc main_arg0) (ix2 ⟨t.val * 1024 + r, h⟩ k) := by
  blk_ext [iblk, V, idx t]
theorem blk1 (c : Dev nD) (t : Fin cfg0.N) (a : Fin 9) (k : Fin 1024) :
    (iblk m c 1 t : S9x1x1024.Idx → EReal) (ix3 a 0 k) = m (c.tc.loc main_arg1) (ix3 a 0 k) := by
  blk_ext [iblk, V, idx t]
theorem blk2 (c : Dev nD) (t : Fin cfg0.N) (k : Fin 1024) :
    (iblk m c 2 t : S1x1024.Idx → EReal) (ix2 0 k) = m (c.tc.loc main_arg2) (ix1 k) := by
  blk_ext! [iblk, V, idx t]
theorem blk3 (c : Dev nD) (t : Fin cfg0.N) (k : Fin 1024) (f : Fin 2816) :
    (iblk m c 3 t : S1024x2816.Idx → EReal) (ix2 k f) = m (c.tc.loc main_arg3) (ix2 k f) := by
  blk_ext! [iblk, V, idx t]
theorem blk4 (c : Dev nD) (t : Fin cfg0.N) (k : Fin 1024) (f : Fin 2816) :
    (iblk m c 4 t : S1024x2816.Idx → EReal) (ix2 k f) = m (c.tc.loc main_arg4) (ix2 k f) := by
  blk_ext! [iblk, V, idx t]
theorem blk5 (c : Dev nD) (t : Fin cfg0.N) (f : Fin 2816) (k : Fin 1024) :
    (iblk m c 5 t : S2816x1024.Idx → EReal) (ix2 f k) = m (c.tc.loc main_arg5) (ix2 f k) := by
  blk_ext! [iblk, V, idx t]
theorem blk6 (c : Dev nD) (t : Fin cfg0.N) (k : Fin 1024) :
    (iblk m c 6 t : S1x1024.Idx → EReal) (ix2 0 k) = m (c.tc.loc main_arg6) (ix1 k) := by
  blk_ext! [iblk, V, idx t]
theorem blk7 (c : Dev nD) (t : Fin cfg0.N) (r : Fin 64) (k : Fin 3232) (h : t.val * 64 + r < 1024) :
    (iblk m c 7 t : S64x3232.Idx → EReal) (ix2 r k) = m (c.tc.loc main_arg7) (ix2 ⟨t.val * 64 + r, h⟩ k) := by
  blk_ext [iblk, V, idx t]
theorem blk8 (c : Dev nD) (t : Fin cfg0.N) (r : Fin 64) (k : Fin 1024) (h : t.val * 64 + r < 1024) :
    (iblk m c 8 t : S64x1024.Idx → EReal) (ix2 r k) = m (c.tc.loc main_arg8) (ix2 ⟨t.val * 64 + r, h⟩ k) := by
  blk_ext [iblk, V, idx t]

/-- The finished rows after the last grid point. -/
theorem final (c : Dev nD) : (dats m 0 c).arrAt 9 cfg0.N
    = fun i : S16384x1024.Idx => layer 0 1 2 (m (c.tc.loc main_arg0)) (m (c.tc.loc main_arg1)) (m (c.tc.loc main_arg2))
        (m (c.tc.loc main_arg6)) (m (c.tc.loc main_arg3)) (m (c.tc.loc main_arg4)) (m (c.tc.loc main_arg5)) (i 0) (i 1) := by
  refine (dats m 0 c).arrAt_eq_of_covers 9 _ (by decide +kernel) fun t _ y => ?_
  blk_simp
  rw [after0_9]
  refine (point m c t y).trans ?_
  obtain ⟨r, l, rfl⟩ : ∃ r l : Fin 1024, y = (ix2 r l : S1024x1024.Idx) := ⟨y 0, y 1, by funext a; fin_cases a <;> rfl⟩
  have ht : t.val * 1024 + r < 16384 := by have := (idx t).2.2.2.2.2.2.2.2.2.2.2.2; omega
  have e0 : (((cfg0.win 9).blk t).view.emb (ix2 r l : S1024x1024.Idx)) 0 = (⟨t.val * 1024 + r, ht⟩ : Fin 16384) := by
    apply Fin.ext; blk_simp [idx t]
  have e1 : (((cfg0.win 9).blk t).view.emb (ix2 r l : S1024x1024.Idx)) 1 = l := by
    apply Fin.ext; blk_simp [idx t]
  show outBlk _ _ _ _ _ _ _ _ _ _ r l = layer _ _ _ _ _ _ _ _ _ _ _ _
  rw [e0, e1]
  unfold outBlk actBlk modBlk layer
  simp only [blk0 m c t _ _ ht, blk1, blk2, blk3, blk4, blk5, blk6]

/-- The first columns of the mixer's weights after the last grid point. -/
theorem final_in (c : Dev nD) : (dats m 0 c).arrAt 10 cfg0.N
    = fun i : S1024x3072.Idx => leftCols (m (c.tc.loc main_arg7)) (i 0) (i 1) := by
  refine (dats m 0 c).arrAt_eq_of_covers 10 _ (by decide +kernel) fun t _ y => ?_
  blk_simp
  rw [after0_10]
  refine (point_in m c t y).trans ?_
  obtain ⟨r, l, rfl⟩ : ∃ (r : Fin 64) (l : Fin 3072), y = (ix2 r l : S64x3072.Idx) := ⟨y 0, y 1, by funext a; fin_cases a <;> rfl⟩
  have ht : t.val * 64 + r < 1024 := by have := (idx t).2.2.2.2.2.2.2.2.2.2.2.2; omega
  have e0 : (((cfg0.win 10).blk t).view.emb (ix2 r l : S64x3072.Idx)) 0 = (⟨t.val * 64 + r, ht⟩ : Fin 1024) := by
    apply Fin.ext; blk_simp [idx t]
  have e1 : (((cfg0.win 10).blk t).view.emb (ix2 r l : S64x3072.Idx)) 1 = l := by
    apply Fin.ext; blk_simp [idx t]
  show _ = leftCols _ _ _
  rw [e0, e1]
  exact blk7 m c t r ⟨l, by omega⟩ ht

/-- The other weights of the mixer after the last grid point. -/
theorem final_out (c : Dev nD) : (dats m 0 c).arrAt 11 cfg0.N
    = fun i : S1024x1024.Idx => (m (c.tc.loc main_arg8) : FVec Ideal S1024x1024 .f32) (ix2 (i 0) (i 1)) := by
  refine (dats m 0 c).arrAt_eq_of_covers 11 _ (by decide +kernel) fun t _ y => ?_
  blk_simp
  rw [after0_11]
  refine (point_out m c t y).trans ?_
  obtain ⟨r, l, rfl⟩ : ∃ (r : Fin 64) (l : Fin 1024), y = (ix2 r l : S64x1024.Idx) := ⟨y 0, y 1, by funext a; fin_cases a <;> rfl⟩
  have ht : t.val * 64 + r < 1024 := by have := (idx t).2.2.2.2.2.2.2.2.2.2.2.2; omega
  have e0 : (((cfg0.win 11).blk t).view.emb (ix2 r l : S64x1024.Idx)) 0 = (⟨t.val * 64 + r, ht⟩ : Fin 1024) := by
    apply Fin.ext; blk_simp [idx t]
  have e1 : (((cfg0.win 11).blk t).view.emb (ix2 r l : S64x1024.Idx)) 1 = l := by
    apply Fin.ext; blk_simp [idx t]
  show _ = (m (c.tc.loc main_arg8) : FVec Ideal S1024x1024 .f32) (ix2 _ _)
  rw [e0, e1]
  exact blk8 m c t r l ht

end Cert.FirstValue

end
-- ==== Proof.AroundAda.lean ====
module

public import proofs.«01_k».proof.Proof.AdaValue
public import proofs.«01_k».proof.Proof.Gen.AroundIdeal.Frame

/-!
The conditioning rows where the call is the first of three: what its points leave, over any contents of the buffers
when it is entered.
-/

@[expose] public section

set_option maxRecDepth 16384

noncomputable section

namespace Cert.AroundValue

open Idealize.ShloMosaic Idealize.ShloMosaic.TcCoe Idealize.SL.Sem Cert.AroundIdeal Cert.AroundIdeal.Gen
open Cert.AdaValue (Done part total share col)

variable (V : (c : Dev nD) → (b : Ref sig .tc) → Buf (Elt Ideal) ((c : Thread nD τ).loc b))

/-- A later point adds its sum to what the point before it left. -/
theorem ada_next (c : Dev nD) (t : Fin cfg0.N) (h : ¬t.val % 8 = 0) (y : S9x1x1024.Idx) :
    (outsAt0 V c t.val t.isLt : S9x1x1024.Idx → EReal) y
     = (outsAt0 V c (t.val - 1) (Nat.lt_of_le_of_lt (Nat.sub_le _ _) t.isLt) : S9x1x1024.Idx → EReal) y
      + part (iblk0 V c 0 t) (iblk0 V c 1 t) (y 0) (y 2) := by
  rw [outsAt0_B V c t h]
  frame_out
  generalize outsAt0 V c (t.val - 1) _ = p
  generalize iblk0 V c 0 t = x0
  generalize iblk0 V c 1 t = x1
  canon_tiles x hx
  all_goals obtain ⟨z, z', k, rfl⟩ : ∃ z z' k, x = ix3 z z' k := ⟨x 0, x 1, x 2, by funext a; fin_cases a <;> rfl⟩
  all_goals pointwise [k0_pay1, k0_pay2, k0_pay4, k0_pay5, k0_pay6, k0_pay7, k0_pay8, k0_pay9, k0_pay10, k0_pay11, k0_pay12]
  all_goals refine Cert.AdaValue.entry p x0 x1 y _ k _ (hx0.trans ?_) hx2 ?_
  all_goals simp

/-- An entry of the bias block. -/
def bias (c : Dev nD) (t : Fin cfg0.N) (y : S9x1x1024.Idx) : EReal := iblk0 V c 2 t y

/-- The first point adds its sum to the bias. -/
theorem ada_first (c : Dev nD) (t : Fin cfg0.N) (h : t.val % 8 = 0) (y : S9x1x1024.Idx) :
    (outsAt0 V c t.val t.isLt : S9x1x1024.Idx → EReal) y
     = bias V c t y + part (iblk0 V c 0 t) (iblk0 V c 1 t) (y 0) (y 2) := by
  rw [outsAt0_A V c t h]
  unfold bias
  frame_out
  generalize iblk0 V c 0 t = x0
  generalize iblk0 V c 1 t = x1
  generalize iblk0 V c 2 t = p
  refine Done.all (p := p) (v := total p x0 x1) ?_ y
  refine Done.next _ 8 _ (k0_pay2 (k0_pay4 x0 x1)) ?_ ?_
  on_goal 1 => refine Done.next _ 7 _ (k0_pay1 (k0_pay4 x0 x1)) ?_ ?_
  on_goal 1 => refine Done.next _ 6 _ (k0_pay12 (k0_pay4 x0 x1)) ?_ ?_
  on_goal 1 => refine Done.next _ 5 _ (k0_pay11 (k0_pay4 x0 x1)) ?_ ?_
  on_goal 1 => refine Done.next _ 4 _ (k0_pay10 (k0_pay4 x0 x1)) ?_ ?_
  on_goal 1 => refine Done.next _ 3 _ (k0_pay9 (k0_pay4 x0 x1)) ?_ ?_
  on_goal 1 => refine Done.next _ 2 _ (fun q => k0_pay8 (k0_pay7 x0 x1 q)) ?_ ?_
  on_goal 1 => refine Done.next _ 1 _ (k0_pay6 x0 x1) ?_ ?_
  on_goal 1 => refine Done.next _ 0 _ (k0_pay5 x0 x1) ?_ ?_
  · intro y
    rw [if_neg (by omega)]
    rw [View.canon_cons_unit_lit' _ _ _ (by decide)]
    pointwise [k0_pay3]
  all_goals intro ho k
  all_goals pointwise [k0_pay1, k0_pay2, k0_pay4, k0_pay5, k0_pay6, k0_pay7, k0_pay8, k0_pay9, k0_pay10, k0_pay11, k0_pay12]
  all_goals refine Cert.AdaValue.entry p x0 x1 _ _ k _ rfl rfl ?_
  all_goals simp

theorem idx0 : ∀ t : Fin cfg0.N, win0_0.index t = ![t.val, 0] ∧ win0_1.index t = ![t.val, 0] := (by decide +kernel : ∀ t : Fin grid0.N, _)

/-- The first grid point, and the last. -/
def first : Fin cfg0.N := ⟨0, by decide⟩
def last : Fin cfg0.N := ⟨7, by decide⟩

theorem idx0' : win0_2.index first = ![0, 0, 0] := by decide +kernel

/-- What the last point leaves: the bias and the sums of all points. -/
theorem ada_last (c : Dev nD) (y : S9x1x1024.Idx) : (outsAt0 V c last.val last.isLt : S9x1x1024.Idx → EReal) y
    = bias V c first y + ∑ t : Fin cfg0.N, part (iblk0 V c 0 t) (iblk0 V c 1 t) (y 0) (y 2) :=
  Pipeline.eq_sum_fin_of_reset_step_apply_last (fun n h => (outsAt0 V c n h : S9x1x1024.Idx → EReal)) 8
    (bias V c first) (fun t y => part (iblk0 V c 0 t) (iblk0 V c 1 t) (y 0) (y 2))
    (fun t h y => by
      obtain rfl : t = first := Fin.ext (by have : t.val < 8 := t.isLt; show t.val = 0; omega)
      exact ada_first V c _ h y)
    (fun t h y => ada_next V c t h y) (le_of_eq N_0) last rfl y

theorem ada_blk0 (c : Dev nD) (t : Fin cfg0.N) (s : Fin 128) (h : t.val * 128 + s < 1024) :
    (iblk0 V c 0 t : S128x1.Idx → EReal) (ix2 s 0) = (V c main_v0 : S1024x1.Idx → EReal) (ix2 ⟨t.val * 128 + s, h⟩ 0) := by
  blk_ext [iblk0, idx0 t]

theorem ada_blk1 (c : Dev nD) (t : Fin cfg0.N) (s : Fin 128) (n : Fin 9216) (h : t.val * 128 + s < 1024) :
    (iblk0 V c 1 t : S128x9216.Idx → EReal) (ix2 s n) = (V c main_arg2 : S1024x9216.Idx → EReal) (ix2 ⟨t.val * 128 + s, h⟩ n) := by
  blk_ext [iblk0, idx0 t]

theorem ada_blk2 (c : Dev nD) (a : Fin 9) (z : Fin 1) (k : Fin 1024) :
    bias V c first (ix3 a z k) = (V c main_v1 : S9x1x1024.Idx → EReal) (ix3 a z k) := by
  unfold bias
  blk_ext [iblk0, idx0']

/-- The result is the conditioning rows of the vectors which the entered buffers hold. -/
theorem ada_final (c : Dev nD) (x : S1024.Idx → EReal) (b : S9216.Idx → EReal)
    (hx : ∀ j : Fin 1024, (V c main_v0 : S1024x1.Idx → EReal) (ix2 j 0) = x (ix1 j))
    (hb : ∀ (a : Fin 9) (z : Fin 1) (k : Fin 1024), (V c main_v1 : S9x1x1024.Idx → EReal) (ix3 a z k) = b (ix1 (col a k))) :
    (dat0 V c).arrAt 3 cfg0.N
      = fun i : S9x1x1024.Idx => Cert.AdaValue.layer x (V c main_arg2) b (i 0) (i 2) := by
  refine (dat0 V c).arrAt_eq_of_after_last 3 last (by decide +kernel) _ fun y => ?_
  blk_simp
  rw [after0_3]
  refine (ada_last V c _).trans ?_
  obtain ⟨a, z, k, rfl⟩ : ∃ (a : Fin 9) (z : Fin 1) (k : Fin 1024), y = (ix3 a z k : S9x1x1024.Idx) := ⟨y 0, y 1, y 2, by funext a; fin_cases a <;> rfl⟩
  unfold Cert.AdaValue.layer
  congr 1
  · exact (ada_blk2 V c a z k).trans (hb a z k)
  · unfold part
    refine Fin.sum_mul_add_congr (S := cfg0.N) (n := 128) fun (t : Fin cfg0.N) s hl => ?_
    rw [ada_blk0 V c t s hl, ada_blk1 V c t s _ hl, hx]

end Cert.AroundValue

end
-- ==== Proof.AroundFirst.lean ====
module

public import proofs.«01_k».proof.Proof.FirstValue
public import proofs.«01_k».proof.Proof.Gen.AroundIdeal.Frame

/-!
The first feed-forward call where it is the second of three: the arrays it leaves, over any contents of the buffers when
it is entered.
-/

@[expose] public section

set_option maxRecDepth 16384

noncomputable section

namespace Cert.AroundValue

open Idealize.ShloMosaic Idealize.ShloMosaic.TcCoe Idealize.SL.Sem Cert.AroundIdeal Cert.AroundIdeal.Gen Cert.FfnValue

variable (V : (c : Dev nD) → (b : Ref sig .tc) → Buf (Elt Ideal) ((c : Thread nD τ).loc b))

set_option maxHeartbeats 4000000 in
theorem fst_point (c : Dev nD) (t : Fin cfg1.N) (y : S1024x1024.Idx) :
    ((outsAt1 V c t).1 : S1024x1024.Idx → EReal) y
      = outBlk 0 1 2 (iblk1 V c 0 t) (iblk1 V c 1 t) (iblk1 V c 2 t) (iblk1 V c 3 t) (iblk1 V c 4 t) (iblk1 V c 5 t) (iblk1 V c 6 t) (y 0) (y 1) := by
  unfold outsAt1
  frame_out
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  refine View.canon_eq_of_allAt _ _ _ (View.cover_of_tiled _ ![256, 1024] (by rfl) y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals refine out_rows 0 1 2 x0 x1 x2 x3 x4 x5 x6 _ _ _ _ _ _ _ _ y fun r f h => ?_
  all_goals refine rows_back 0 1 x0 x1 x2 x3 x4 _ _ _ _ (by rfl) ?_ r f h
  all_goals repeat' (refine List.forall_mem_cons.mpr ⟨?_, ?_⟩)
  all_goals first
    | exact List.forall_mem_nil _
    | exact good_act 0 1 x0 x1 x2 x3 x4 _ _ _ _ _ _ _ _

theorem fst_point_in (c : Dev nD) (t : Fin cfg1.N) (y : S64x3072.Idx) :
    ((outsAt1 V c t).2.1 : S64x3072.Idx → EReal) y
      = (iblk1 V c 7 t : S64x3232.Idx → EReal) (ix2 (y 0) ⟨(y 1).val, by have : (y 1).val < 3072 := (y 1).isLt; omega⟩) := by
  unfold outsAt1
  frame_out
  show (truncf .bf16 _ _ : FVec Ideal S64x3072 .bf16) y = _
  pointwise []

theorem fst_point_out (c : Dev nD) (t : Fin cfg1.N) (y : S64x1024.Idx) :
    ((outsAt1 V c t).2.2 : S64x1024.Idx → EReal) y = (iblk1 V c 8 t : S64x1024.Idx → EReal) y := by
  unfold outsAt1
  frame_out
  rfl

theorem idx1 : ∀ t : Fin cfg1.N, win1_0.index t = ![t.val, 0] ∧ win1_1.index t = ![0, 0, 0] ∧ win1_2.index t = ![0, 0]
    ∧ win1_3.index t = ![0, 0] ∧ win1_4.index t = ![0, 0] ∧ win1_5.index t = ![0, 0] ∧ win1_6.index t = ![0, 0]
    ∧ win1_7.index t = ![t.val, 0] ∧ win1_8.index t = ![t.val, 0] ∧ win1_9.index t = ![t.val, 0] ∧ win1_10.index t = ![t.val, 0]
    ∧ win1_11.index t = ![t.val, 0] ∧ t.val < 16 :=
  (by decide +kernel : ∀ t : Fin grid1.N, _)

theorem fst_blk0 (c : Dev nD) (t : Fin cfg1.N) (r k : Fin 1024) (h : t.val * 1024 + r < 16384) :
    (iblk1 V c 0 t : S1024x1024.Idx → EReal) (ix2 r k) = (V c main_arg0 : S16384x1024.Idx → EReal) (ix2 ⟨t.val * 1024 + r, h⟩ k) := by
  blk_ext [iblk1, idx1 t]
theorem fst_blk1 (c : Dev nD) (t : Fin cfg1.N) (a : Fin 9) (k : Fin 1024) :
    (iblk1 V c 1 t : S9x1x1024.Idx → EReal) (ix3 a 0 k) = (V c main_v2 : S9x1x1024.Idx → EReal) (ix3 a 0 k) := by
  blk_ext [iblk1, idx1 t]
theorem fst_blk2 (c : Dev nD) (t : Fin cfg1.N) (k : Fin 1024) :
    (iblk1 V c 2 t : S1x1024.Idx → EReal) (ix2 0 k) = (V c main_v3 : S1x1024.Idx → EReal) (ix2 0 k) := by
  blk_ext [iblk1, idx1 t]
theorem fst_blk3 (c : Dev nD) (t : Fin cfg1.N) (k : Fin 1024) (f : Fin 2816) :
    (iblk1 V c 3 t : S1024x2816.Idx → EReal) (ix2 k f) = (V c main_v4 : S1024x2816.Idx → EReal) (ix2 k f) := by
  blk_ext [iblk1, idx1 t]
theorem fst_blk4 (c : Dev nD) (t : Fin cfg1.N) (k : Fin 1024) (f : Fin 2816) :
    (iblk1 V c 4 t : S1024x2816.Idx → EReal) (ix2 k f) = (V c main_v5 : S1024x2816.Idx → EReal) (ix2 k f) := by
  blk_ext [iblk1, idx1 t]
theorem fst_blk5 (c : Dev nD) (t : Fin cfg1.N) (f : Fin 2816) (k : Fin 1024) :
    (iblk1 V c 5 t : S2816x1024.Idx → EReal) (ix2 f k) = (V c main_v6 : S2816x1024.Idx → EReal) (ix2 f k) := by
  blk_ext [iblk1, idx1 t]
theorem fst_blk6 (c : Dev nD) (t : Fin cfg1.N) (k : Fin 1024) :
    (iblk1 V c 6 t : S1x1024.Idx → EReal) (ix2 0 k) = (V c main_v7 : S1x1024.Idx → EReal) (ix2 0 k) := by
  blk_ext [iblk1, idx1 t]
theorem fst_blk7 (c : Dev nD) (t : Fin cfg1.N) (r : Fin 64) (k : Fin 3232) (h : t.val * 64 + r < 1024) :
    (iblk1 V c 7 t : S64x3232.Idx → EReal) (ix2 r k) = (V c main_arg9 : S1024x3232.Idx → EReal) (ix2 ⟨t.val * 64 + r, h⟩ k) := by
  blk_ext [iblk1, idx1 t]
theorem fst_blk8 (c : Dev nD) (t : Fin cfg1.N) (r : Fin 64) (k : Fin 1024) (h : t.val * 64 + r < 1024) :
    (iblk1 V c 8 t : S64x1024.Idx → EReal) (ix2 r k) = (V c main_arg10 : S1024x1024.Idx → EReal) (ix2 ⟨t.val * 64 + r, h⟩ k) := by
  blk_ext [iblk1, idx1 t]

/-- The finished rows after the last grid point. -/
theorem fst_final (c : Dev nD) (g g' : S1024.Idx → EReal)
    (hg : ∀ k : Fin 1024, (V c main_v3 : S1x1024.Idx → EReal) (ix2 0 k) = g (ix1 k))
    (hg' : ∀ k : Fin 1024, (V c main_v7 : S1x1024.Idx → EReal) (ix2 0 k) = g' (ix1 k)) :
    (dat1 V c).arrAt 9 cfg1.N
    = fun i : S16384x1024.Idx => layer 0 1 2 (V c main_arg0) (V c main_v2) g g' (V c main_v4) (V c main_v5) (V c main_v6) (i 0) (i 1) := by
  refine (dat1 V c).arrAt_eq_of_covers 9 _ (by decide +kernel) fun t _ y => ?_
  blk_simp
  rw [after1_9]
  refine (fst_point V c t y).trans ?_
  obtain ⟨r, l, rfl⟩ : ∃ r l : Fin 1024, y = (ix2 r l : S1024x1024.Idx) := ⟨y 0, y 1, by funext a; fin_cases a <;> rfl⟩
  have ht : t.val * 1024 + r < 16384 := by have := (idx1 t).2.2.2.2.2.2.2.2.2.2.2.2; omega
  have e0 : (((cfg1.win 9).blk t).view.emb (ix2 r l : S1024x1024.Idx)) 0 = (⟨t.val * 1024 + r, ht⟩ : Fin 16384) := by
    apply Fin.ext; blk_simp [idx1 t]
  have e1 : (((cfg1.win 9).blk t).view.emb (ix2 r l : S1024x1024.Idx)) 1 = l := by
    apply Fin.ext; blk_simp [idx1 t]
  show outBlk _ _ _ _ _ _ _ _ _ _ r l = layer _ _ _ _ _ _ _ _ _ _ _ _
  rw [e0, e1]
  unfold outBlk actBlk modBlk layer
  simp only [fst_blk0 V c t _ _ ht, fst_blk1, fst_blk2, fst_blk3, fst_blk4, fst_blk5, fst_blk6, hg, hg']

/-- The first columns of the mixer's weights after the last grid point. -/
theorem fst_final_in (c : Dev nD) : (dat1 V c).arrAt 10 cfg1.N
    = fun i : S1024x3072.Idx => Cert.FirstValue.leftCols (V c main_arg9) (i 0) (i 1) := by
  refine (dat1 V c).arrAt_eq_of_covers 10 _ (by decide +kernel) fun t _ y => ?_
  blk_simp
  rw [after1_10]
  refine (fst_point_in V c t y).trans ?_
  obtain ⟨r, l, rfl⟩ : ∃ (r : Fin 64) (l : Fin 3072), y = (ix2 r l : S64x3072.Idx) := ⟨y 0, y 1, by funext a; fin_cases a <;> rfl⟩
  have ht : t.val * 64 + r < 1024 := by have := (idx1 t).2.2.2.2.2.2.2.2.2.2.2.2; omega
  have e0 : (((cfg1.win 10).blk t).view.emb (ix2 r l : S64x3072.Idx)) 0 = (⟨t.val * 64 + r, ht⟩ : Fin 1024) := by
    apply Fin.ext; blk_simp [idx1 t]
  have e1 : (((cfg1.win 10).blk t).view.emb (ix2 r l : S64x3072.Idx)) 1 = l := by
    apply Fin.ext; blk_simp [idx1 t]
  show _ = Cert.FirstValue.leftCols _ _ _
  rw [e0, e1]
  exact fst_blk7 V c t r ⟨l, by omega⟩ ht

/-- The other weights of the mixer after the last grid point. -/
theorem fst_final_out (c : Dev nD) : (dat1 V c).arrAt 11 cfg1.N
    = fun i : S1024x1024.Idx => (V c main_arg10 : FVec Ideal S1024x1024 .f32) (ix2 (i 0) (i 1)) := by
  refine (dat1 V c).arrAt_eq_of_covers 11 _ (by decide +kernel) fun t _ y => ?_
  blk_simp
  rw [after1_11]
  refine (fst_point_out V c t y).trans ?_
  obtain ⟨r, l, rfl⟩ : ∃ (r : Fin 64) (l : Fin 1024), y = (ix2 r l : S64x1024.Idx) := ⟨y 0, y 1, by funext a; fin_cases a <;> rfl⟩
  have ht : t.val * 64 + r < 1024 := by have := (idx1 t).2.2.2.2.2.2.2.2.2.2.2.2; omega
  have e0 : (((cfg1.win 11).blk t).view.emb (ix2 r l : S64x1024.Idx)) 0 = (⟨t.val * 64 + r, ht⟩ : Fin 1024) := by
    apply Fin.ext; blk_simp [idx1 t]
  have e1 : (((cfg1.win 11).blk t).view.emb (ix2 r l : S64x1024.Idx)) 1 = l := by
    apply Fin.ext; blk_simp [idx1 t]
  show _ = (V c main_arg10 : FVec Ideal S1024x1024 .f32) (ix2 _ _)
  rw [e0, e1]
  exact fst_blk8 V c t r l ht

end Cert.AroundValue

end
-- ==== Proof.AroundLast.lean ====
module

public import proofs.«01_k».proof.Proof.FfnTiles
public import proofs.«01_k».proof.Proof.Gen.AroundIdeal.Frame

/-!
The second feed-forward call where it is the last of three: the array it leaves, over any contents of the buffers when it
is entered.
-/

@[expose] public section

set_option maxRecDepth 16384

noncomputable section

namespace Cert.AroundValue

open Idealize.ShloMosaic Idealize.ShloMosaic.TcCoe Idealize.SL.Sem Cert.AroundIdeal Cert.AroundIdeal.Gen Cert.FfnValue

variable (V : (c : Dev nD) → (b : Ref sig .tc) → Buf (Elt Ideal) ((c : Thread nD τ).loc b))

set_option maxHeartbeats 4000000 in
theorem snd_point (c : Dev nD) (t : Fin cfg2.N) (y : S1024x1024.Idx) :
    (outsAt2 V c t : S1024x1024.Idx → EReal) y
      = outBlk 6 7 8 (iblk2 V c 0 t) (iblk2 V c 1 t) (iblk2 V c 2 t) (iblk2 V c 3 t) (iblk2 V c 4 t) (iblk2 V c 5 t) (iblk2 V c 6 t) (y 0) (y 1) := by
  unfold outsAt2
  frame_out
  generalize iblk2 V c 0 t = x0
  generalize iblk2 V c 1 t = x1
  generalize iblk2 V c 2 t = x2
  generalize iblk2 V c 3 t = x3
  generalize iblk2 V c 4 t = x4
  generalize iblk2 V c 5 t = x5
  generalize iblk2 V c 6 t = x6
  refine View.canon_eq_of_allAt _ _ _ (View.cover_of_tiled _ ![256, 1024] (by rfl) y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals refine out_rows 6 7 8 x0 x1 x2 x3 x4 x5 x6 _ _ _ _ _ _ _ _ y fun r f h => ?_
  all_goals refine rows_back 6 7 x0 x1 x2 x3 x4 _ _ _ _ (by rfl) ?_ r f h
  all_goals repeat' (refine List.forall_mem_cons.mpr ⟨?_, ?_⟩)
  all_goals first
    | exact List.forall_mem_nil _
    | exact good_act 6 7 x0 x1 x2 x3 x4 _ _ _ _ _ _ _ _

theorem idx2 : ∀ t : Fin cfg2.N, win2_0.index t = ![t.val, 0] ∧ win2_1.index t = ![0, 0, 0] ∧ win2_2.index t = ![0, 0]
    ∧ win2_3.index t = ![0, 0] ∧ win2_4.index t = ![0, 0] ∧ win2_5.index t = ![0, 0] ∧ win2_6.index t = ![0, 0]
    ∧ win2_7.index t = ![t.val, 0] ∧ t.val < 16 :=
  (by decide +kernel : ∀ t : Fin grid2.N, _)

theorem snd_blk0 (c : Dev nD) (t : Fin cfg2.N) (r k : Fin 1024) (h : t.val * 1024 + r < 16384) :
    (iblk2 V c 0 t : S1024x1024.Idx → EReal) (ix2 r k) = (V c main_arg11 : S16384x1024.Idx → EReal) (ix2 ⟨t.val * 1024 + r, h⟩ k) := by
  blk_ext [iblk2, idx2 t]
theorem snd_blk1 (c : Dev nD) (t : Fin cfg2.N) (a : Fin 9) (k : Fin 1024) :
    (iblk2 V c 1 t : S9x1x1024.Idx → EReal) (ix3 a 0 k) = (V c main_v2 : S9x1x1024.Idx → EReal) (ix3 a 0 k) := by
  blk_ext [iblk2, idx2 t]
theorem snd_blk2 (c : Dev nD) (t : Fin cfg2.N) (k : Fin 1024) :
    (iblk2 V c 2 t : S1x1024.Idx → EReal) (ix2 0 k) = (V c main_v12 : S1x1024.Idx → EReal) (ix2 0 k) := by
  blk_ext [iblk2, idx2 t]
theorem snd_blk3 (c : Dev nD) (t : Fin cfg2.N) (k : Fin 1024) (f : Fin 2816) :
    (iblk2 V c 3 t : S1024x2816.Idx → EReal) (ix2 k f) = (V c main_v9 : S1024x2816.Idx → EReal) (ix2 k f) := by
  blk_ext [iblk2, idx2 t]
theorem snd_blk4 (c : Dev nD) (t : Fin cfg2.N) (k : Fin 1024) (f : Fin 2816) :
    (iblk2 V c 4 t : S1024x2816.Idx → EReal) (ix2 k f) = (V c main_v10 : S1024x2816.Idx → EReal) (ix2 k f) := by
  blk_ext [iblk2, idx2 t]
theorem snd_blk5 (c : Dev nD) (t : Fin cfg2.N) (f : Fin 2816) (k : Fin 1024) :
    (iblk2 V c 5 t : S2816x1024.Idx → EReal) (ix2 f k) = (V c main_v11 : S2816x1024.Idx → EReal) (ix2 f k) := by
  blk_ext [iblk2, idx2 t]
theorem snd_blk6 (c : Dev nD) (t : Fin cfg2.N) (k : Fin 1024) :
    (iblk2 V c 6 t : S1x1024.Idx → EReal) (ix2 0 k) = (V c main_v13 : S1x1024.Idx → EReal) (ix2 0 k) := by
  blk_ext [iblk2, idx2 t]

/-- The finished rows after the last grid point. -/
theorem snd_final (c : Dev nD) (g g' : S1024.Idx → EReal)
    (hg : ∀ k : Fin 1024, (V c main_v12 : S1x1024.Idx → EReal) (ix2 0 k) = g (ix1 k))
    (hg' : ∀ k : Fin 1024, (V c main_v13 : S1x1024.Idx → EReal) (ix2 0 k) = g' (ix1 k)) :
    (dat2 V c).arrAt 7 cfg2.N
    = fun i : S16384x1024.Idx => layer 6 7 8 (V c main_arg11) (V c main_v2) g g' (V c main_v9) (V c main_v10) (V c main_v11) (i 0) (i 1) := by
  refine (dat2 V c).arrAt_eq_of_covers 7 _ (by decide +kernel) fun t _ y => ?_
  blk_simp
  rw [after2_7]
  refine (snd_point V c t y).trans ?_
  obtain ⟨r, l, rfl⟩ : ∃ r l : Fin 1024, y = (ix2 r l : S1024x1024.Idx) := ⟨y 0, y 1, by funext a; fin_cases a <;> rfl⟩
  have ht : t.val * 1024 + r < 16384 := by have := (idx2 t).2.2.2.2.2.2.2.2; omega
  have e0 : (((cfg2.win 7).blk t).view.emb (ix2 r l : S1024x1024.Idx)) 0 = (⟨t.val * 1024 + r, ht⟩ : Fin 16384) := by
    apply Fin.ext; blk_simp [idx2 t]
  have e1 : (((cfg2.win 7).blk t).view.emb (ix2 r l : S1024x1024.Idx)) 1 = l := by
    apply Fin.ext; blk_simp [idx2 t]
  show outBlk _ _ _ _ _ _ _ _ _ _ r l = layer _ _ _ _ _ _ _ _ _ _ _ _
  rw [e0, e1]
  unfold outBlk actBlk modBlk layer
  simp only [snd_blk0 V c t _ _ ht, snd_blk1, snd_blk2, snd_blk3, snd_blk4, snd_blk5, snd_blk6, hg, hg']

end Cert.AroundValue

end
-- ==== Proof.AroundRun.lean ====
module

public import proofs.«01_k».proof.Proof.Gen.AroundIdeal.Frame
public import Idealize.ShloMosaic.PureOps.Ideal
public import Idealize.ShloMosaic.Lib.Pipeline.ValueKit

/-!
The three calls run in one program: every buffer ends at what the last call leaves, so that each result is the array of the
call that makes it.
-/

@[expose] public section

set_option maxRecDepth 16384

noncomputable section

namespace Cert.AroundValue

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds Cert.AroundIdeal Cert.AroundIdeal.Gen

/-- The resources which the program's threads own. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer ends at its contents after the last call. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.AroundValue

end
-- ==== Proof.AroundValue.lean ====
module

public import proofs.«01_k».proof.Proof.AroundAda
public import proofs.«01_k».proof.Proof.AroundFirst
public import proofs.«01_k».proof.Proof.AroundLast
public import proofs.«01_k».proof.Proof.AroundRun

/-!
The three calls outside the token mixer, one after the other: what each of them finds in its buffers, and the four arrays
which stand at the end.
-/

@[expose] public section

set_option maxRecDepth 16384

noncomputable section

namespace Cert.AroundValue

open Idealize.ShloMosaic Idealize.ShloMosaic.TcCoe Idealize.ShloMosaic.StableHlo Idealize.SL.Sem Cert.AroundIdeal Cert.AroundIdeal.Gen Cert.FfnValue

section Host

variable (U : Valuation τ sig (Elt Ideal))

theorem host_x (j : Fin 1024) : (StableHlo.after hostOps0 U (Proc.devRef .tc main_v0) : S1024x1.Idx → EReal) (ix2 j 0)
    = (U (Proc.devRef .tc main_arg1) : S1024.Idx → EReal) (ix1 j) := by
  simp only [hostOps0, hostOps1, hostOps2, TRef.binary, TRef.nullary, TRef.unary, TRef.toBuf, TRef.ofBuf, cast_eq]
  after_results_simp
  pointwise []
theorem host_b (a : Fin 9) (z : Fin 1) (k : Fin 1024) :
    (StableHlo.after hostOps0 U (Proc.devRef .tc main_v1) : S9x1x1024.Idx → EReal) (ix3 a z k)
    = (U (Proc.devRef .tc main_arg3) : S9216.Idx → EReal) (ix1 (Cert.AdaValue.col a k)) := by
  obtain rfl : z = 0 := Subsingleton.elim _ _
  have hc : Cert.AdaValue.col a k = (⟨a * 1024 + k, by omega⟩ : Fin 9216) :=
    Fin.ext (by show 1024 * (a : ℕ) + k = (a : ℕ) * 1024 + k; omega)
  rw [hc]
  simp only [hostOps0, hostOps1, hostOps2, TRef.binary, TRef.nullary, TRef.unary, TRef.toBuf, TRef.ofBuf, cast_eq]
  after_results_simp
  pointwise []
theorem host_g1 (k : Fin 1024) : (StableHlo.after hostOps1 U (Proc.devRef .tc main_v3) : S1x1024.Idx → EReal) (ix2 0 k)
    = (U (Proc.devRef .tc main_arg4) : S1024.Idx → EReal) (ix1 k) := by
  simp only [hostOps0, hostOps1, hostOps2, TRef.binary, TRef.nullary, TRef.unary, TRef.toBuf, TRef.ofBuf, cast_eq]
  after_results_simp
  pointwise []
theorem host_g1' (k : Fin 1024) : (StableHlo.after hostOps1 U (Proc.devRef .tc main_v7) : S1x1024.Idx → EReal) (ix2 0 k)
    = (U (Proc.devRef .tc main_arg8) : S1024.Idx → EReal) (ix1 k) := by
  simp only [hostOps0, hostOps1, hostOps2, TRef.binary, TRef.nullary, TRef.unary, TRef.toBuf, TRef.ofBuf, cast_eq]
  after_results_simp
  pointwise []
theorem host_w11 : (StableHlo.after hostOps1 U (Proc.devRef .tc main_v4) : S1024x2816.Idx → EReal)
    = (U (Proc.devRef .tc main_arg5) : S1024x2816.Idx → EReal) := by
  simp only [hostOps0, hostOps1, hostOps2, TRef.binary, TRef.nullary, TRef.unary, TRef.toBuf, TRef.ofBuf, cast_eq]
  after_results_simp
  rfl
theorem host_w13 : (StableHlo.after hostOps1 U (Proc.devRef .tc main_v5) : S1024x2816.Idx → EReal)
    = (U (Proc.devRef .tc main_arg6) : S1024x2816.Idx → EReal) := by
  simp only [hostOps0, hostOps1, hostOps2, TRef.binary, TRef.nullary, TRef.unary, TRef.toBuf, TRef.ofBuf, cast_eq]
  after_results_simp
  rfl
theorem host_w12 : (StableHlo.after hostOps1 U (Proc.devRef .tc main_v6) : S2816x1024.Idx → EReal)
    = (U (Proc.devRef .tc main_arg7) : S2816x1024.Idx → EReal) := by
  simp only [hostOps0, hostOps1, hostOps2, TRef.binary, TRef.nullary, TRef.unary, TRef.toBuf, TRef.ofBuf, cast_eq]
  after_results_simp
  rfl
theorem host_g2 (k : Fin 1024) : (StableHlo.after hostOps2 U (Proc.devRef .tc main_v12) : S1x1024.Idx → EReal) (ix2 0 k)
    = (U (Proc.devRef .tc main_arg12) : S1024.Idx → EReal) (ix1 k) := by
  simp only [hostOps0, hostOps1, hostOps2, TRef.binary, TRef.nullary, TRef.unary, TRef.toBuf, TRef.ofBuf, cast_eq]
  after_results_simp
  pointwise []
theorem host_g2' (k : Fin 1024) : (StableHlo.after hostOps2 U (Proc.devRef .tc main_v13) : S1x1024.Idx → EReal) (ix2 0 k)
    = (U (Proc.devRef .tc main_arg16) : S1024.Idx → EReal) (ix1 k) := by
  simp only [hostOps0, hostOps1, hostOps2, TRef.binary, TRef.nullary, TRef.unary, TRef.toBuf, TRef.ofBuf, cast_eq]
  after_results_simp
  pointwise []
theorem host_w21 : (StableHlo.after hostOps2 U (Proc.devRef .tc main_v9) : S1024x2816.Idx → EReal)
    = (U (Proc.devRef .tc main_arg13) : S1024x2816.Idx → EReal) := by
  simp only [hostOps0, hostOps1, hostOps2, TRef.binary, TRef.nullary, TRef.unary, TRef.toBuf, TRef.ofBuf, cast_eq]
  after_results_simp
  rfl
theorem host_w23 : (StableHlo.after hostOps2 U (Proc.devRef .tc main_v10) : S1024x2816.Idx → EReal)
    = (U (Proc.devRef .tc main_arg14) : S1024x2816.Idx → EReal) := by
  simp only [hostOps0, hostOps1, hostOps2, TRef.binary, TRef.nullary, TRef.unary, TRef.toBuf, TRef.ofBuf, cast_eq]
  after_results_simp
  rfl
theorem host_w22 : (StableHlo.after hostOps2 U (Proc.devRef .tc main_v11) : S2816x1024.Idx → EReal)
    = (U (Proc.devRef .tc main_arg15) : S2816x1024.Idx → EReal) := by
  simp only [hostOps0, hostOps1, hostOps2, TRef.binary, TRef.nullary, TRef.unary, TRef.toBuf, TRef.ofBuf, cast_eq]
  after_results_simp
  rfl

end Host

variable (m : (ℓ : Loc nD τ sig) → Buf (Elt Ideal) ℓ) (ρ : Dev nD → PrngReg)

/-- The finished rows depend on their arrays only. -/
theorem layer_congr (p q s : Fin 9) {x x' : FVec Ideal S16384x1024 .f32} {ada ada' : FVec Ideal S9x1x1024 .f32}
    {g g' : FVec Ideal S1024 .f32} {w1 w3 v1 v3 : S1024x2816.Idx → EReal} {w2 v2 : S2816x1024.Idx → EReal}
    (hx : x = x') (ha : ada = ada') (h1 : w1 = v1) (h3 : w3 = v3) (h2 : w2 = v2) (r : Fin 16384) (l : Fin 1024) :
    layer p q s x ada g g' w1 w3 w2 r l = layer p q s x' ada' g g' v1 v3 v2 r l := by
  rw [hx, ha, h1, h3, h2]

/-- The conditioning rows made from the arguments. -/
def rows (c : Dev nD) : FVec Ideal S9x1x1024 .f32 :=
  fun i => Cert.AdaValue.layer (m (c.tc.loc main_arg1)) (m (c.tc.loc main_arg2)) (m (c.tc.loc main_arg3)) (i 0) (i 2)

theorem ada_end (c : Dev nD) : (dat0 (V1 m ρ) c).arrAt 3 cfg0.N = rows m c := by
  refine (ada_final (V1 m ρ) c (m (c.tc.loc main_arg1)) (m (c.tc.loc main_arg3)) (fun j => host_x (W0 m ρ c) j)
    (fun a z k => host_b (W0 m ρ c) a z k)).trans ?_
  have e : V1 m ρ c main_arg2 = m (c.tc.loc main_arg2) := W1_args m ρ c main_arg2 (by decide)
  rw [e]
  rfl

theorem rows3 (c : Dev nD) : V3 m ρ c main_v2 = rows m c :=
  (W3_of m ρ c main_v2 (by decide)).trans ((W2_arr m ρ c 3).trans (ada_end m ρ c))

theorem rows5 (c : Dev nD) : V5 m ρ c main_v2 = rows m c :=
  (W5_of m ρ c main_v2 (by decide)).trans ((W4_of m ρ c main_v2 (by decide)).trans (rows3 m ρ c))

/-- The rows after the first feed-forward call. -/
theorem end_first (c : Dev nD) : W6 m ρ c (Proc.devRef .tc main_v8_0)
    = fun i : S16384x1024.Idx => layer 0 1 2 (m (c.tc.loc main_arg0)) (rows m c) (m (c.tc.loc main_arg4)) (m (c.tc.loc main_arg8))
        (m (c.tc.loc main_arg5)) (m (c.tc.loc main_arg6)) (m (c.tc.loc main_arg7)) (i 0) (i 1) := by
  refine (W6_of m ρ c main_v8_0 (by decide)).trans ((W5_of m ρ c main_v8_0 (by decide)).trans ((W4_arr m ρ c 9).trans ?_))
  refine (fst_final (V3 m ρ) c (m (c.tc.loc main_arg4)) (m (c.tc.loc main_arg8))
    (fun k => (host_g1 (W2 m ρ c) k).trans (congrFun (W2_args m ρ c main_arg4 (by decide)) _))
    (fun k => (host_g1' (W2 m ρ c) k).trans (congrFun (W2_args m ρ c main_arg8 (by decide)) _))).trans ?_
  have e0 : V3 m ρ c main_arg0 = m (c.tc.loc main_arg0) := W3_args m ρ c main_arg0 (by decide)
  have e1 : (V3 m ρ c main_v4 : S1024x2816.Idx → EReal) = m (c.tc.loc main_arg5) :=
    (host_w11 (W2 m ρ c)).trans (W2_args m ρ c main_arg5 (by decide))
  have e2 : (V3 m ρ c main_v5 : S1024x2816.Idx → EReal) = m (c.tc.loc main_arg6) :=
    (host_w13 (W2 m ρ c)).trans (W2_args m ρ c main_arg6 (by decide))
  have e3 : (V3 m ρ c main_v6 : S2816x1024.Idx → EReal) = m (c.tc.loc main_arg7) :=
    (host_w12 (W2 m ρ c)).trans (W2_args m ρ c main_arg7 (by decide))
  funext i
  exact layer_congr 0 1 2 e0 (rows3 m ρ c) e1 e2 e3 _ _

/-- The first columns of the mixer's weights. -/
theorem end_in (c : Dev nD) : W6 m ρ c (Proc.devRef .tc main_v8_1)
    = fun i : S1024x3072.Idx => Cert.FirstValue.leftCols (m (c.tc.loc main_arg9)) (i 0) (i 1) := by
  refine (W6_of m ρ c main_v8_1 (by decide)).trans ((W5_of m ρ c main_v8_1 (by decide)).trans ((W4_arr m ρ c 10).trans ?_))
  refine (fst_final_in (V3 m ρ) c).trans ?_
  have e0 : V3 m ρ c main_arg9 = m (c.tc.loc main_arg9) := W3_args m ρ c main_arg9 (by decide)
  rw [e0]

/-- The other weights of the mixer. -/
theorem end_out (c : Dev nD) : W6 m ρ c (Proc.devRef .tc main_v8_2)
    = fun i : S1024x1024.Idx => (m (c.tc.loc main_arg10) : FVec Ideal S1024x1024 .f32) (ix2 (i 0) (i 1)) := by
  refine (W6_of m ρ c main_v8_2 (by decide)).trans ((W5_of m ρ c main_v8_2 (by decide)).trans ((W4_arr m ρ c 11).trans ?_))
  refine (fst_final_out (V3 m ρ) c).trans ?_
  have e0 : V3 m ρ c main_arg10 = m (c.tc.loc main_arg10) := W3_args m ρ c main_arg10 (by decide)
  rw [e0]

/-- The rows after the second feed-forward call. -/
theorem end_last (c : Dev nD) : W6 m ρ c (Proc.devRef .tc main_v14)
    = fun i : S16384x1024.Idx => layer 6 7 8 (m (c.tc.loc main_arg11)) (rows m c) (m (c.tc.loc main_arg12)) (m (c.tc.loc main_arg16))
        (m (c.tc.loc main_arg13)) (m (c.tc.loc main_arg14)) (m (c.tc.loc main_arg15)) (i 0) (i 1) := by
  refine (W6_arr m ρ c 7).trans ?_
  refine (snd_final (V5 m ρ) c (m (c.tc.loc main_arg12)) (m (c.tc.loc main_arg16))
    (fun k => (host_g2 (W4 m ρ c) k).trans (congrFun (W4_args m ρ c main_arg12 (by decide)) _))
    (fun k => (host_g2' (W4 m ρ c) k).trans (congrFun (W4_args m ρ c main_arg16 (by decide)) _))).trans ?_
  have e0 : V5 m ρ c main_arg11 = m (c.tc.loc main_arg11) := W5_args m ρ c main_arg11 (by decide)
  have e1 : (V5 m ρ c main_v9 : S1024x2816.Idx → EReal) = m (c.tc.loc main_arg13) :=
    (host_w21 (W4 m ρ c)).trans (W4_args m ρ c main_arg13 (by decide))
  have e2 : (V5 m ρ c main_v10 : S1024x2816.Idx → EReal) = m (c.tc.loc main_arg14) :=
    (host_w23 (W4 m ρ c)).trans (W4_args m ρ c main_arg14 (by decide))
  have e3 : (V5 m ρ c main_v11 : S2816x1024.Idx → EReal) = m (c.tc.loc main_arg15) :=
    (host_w22 (W4 m ρ c)).trans (W4_args m ρ c main_arg15 (by decide))
  funext i
  exact layer_congr 6 7 8 e0 (rows5 m ρ c) e1 e2 e3 _ _

/-- Every execution ends with the four results, the arguments unchanged. -/
theorem run : θ_run defs (onTc (τ := τ) (main (F := Ideal))) ⟨m, fun _ => 0, ρ⟩ (fun r => ∀ c : Dev nD,
      r.2.mem (c.tc.loc main_v8_0) = (fun i : S16384x1024.Idx => layer 0 1 2 (m (c.tc.loc main_arg0)) (rows m c) (m (c.tc.loc main_arg4))
        (m (c.tc.loc main_arg8)) (m (c.tc.loc main_arg5)) (m (c.tc.loc main_arg6)) (m (c.tc.loc main_arg7)) (i 0) (i 1))
      ∧ r.2.mem (c.tc.loc main_v8_1) = (fun i : S1024x3072.Idx => Cert.FirstValue.leftCols (m (c.tc.loc main_arg9)) (i 0) (i 1))
      ∧ r.2.mem (c.tc.loc main_v8_2)
        = (fun i : S1024x1024.Idx => (m (c.tc.loc main_arg10) : FVec Ideal S1024x1024 .f32) (ix2 (i 0) (i 1)))
      ∧ r.2.mem (c.tc.loc main_v14) = (fun i : S16384x1024.Idx => layer 6 7 8 (m (c.tc.loc main_arg11)) (rows m c) (m (c.tc.loc main_arg12))
        (m (c.tc.loc main_arg16)) (m (c.tc.loc main_arg13)) (m (c.tc.loc main_arg14)) (m (c.tc.loc main_arg15)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)) :=
  (θ_run _ _ _).mono (fun r h c => ⟨
    (h c _ (mem_uc main_v8_0 (by decide))).trans (end_first m ρ c),
    (h c _ (mem_uc main_v8_1 (by decide))).trans (end_in m ρ c),
    (h c _ (mem_uc main_v8_2 (by decide))).trans (end_out m ρ c),
    (h c _ (mem_uc main_v14 (by decide))).trans (end_last m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c),
    (h c _ (mem_uc main_arg14 (by decide))).trans (W6_main_arg14 m ρ c),
    (h c _ (mem_uc main_arg15 (by decide))).trans (W6_main_arg15 m ρ c),
    (h c _ (mem_uc main_arg16 (by decide))).trans (W6_main_arg16 m ρ c)⟩) (ends m ρ)

end Cert.AroundValue

end
-- ==== Proof.AroundRefRows.lean ====
module

public import proofs.«01_k».proof.Proof.FfnRows
public import proofs.«01_k».proof.Proof.AdaValue
public import proofs.«01_k».proof.Proof.Gen.AroundRefIdeal.Run

/-!
The reference's three calls outside the token mixer: the conditioning rows first, and both feed-forward results from them.
-/

@[expose] public section

set_option maxRecDepth 16384

noncomputable section

namespace Cert.AroundValue

open Idealize.ShloMosaic Idealize.ShloMosaic.TcCoe Idealize.SL.Sem Cert.FfnValue

/-- The reference's conditioning rows as one array. -/
theorem ref_rows (x : FVec Ideal Cert.AroundRefIdeal.S1024 .f32) (w : FVec Ideal Cert.AroundRefIdeal.S1024x9216 .f32) (b : FVec Ideal Cert.AroundRefIdeal.S9216 .f32) :
    (shapeCast Cert.AroundRefIdeal.S9x1x1024 (addf (Host.dotGeneral Cert.AroundRefIdeal.dot_S1024_S1024x9216_S9216_0_0_n_1_n_n none
      (mulf x (Host.divf (broadcastInDim Cert.AroundRefIdeal.S1024 ![] Cert.AroundRefIdeal.Gen.bcast_S_S1024 (constant Cert.AroundRefIdeal.S_ .f32 0x3F800000#32))
        (addf (broadcastInDim Cert.AroundRefIdeal.S1024 ![] Cert.AroundRefIdeal.Gen.bcast_S_S1024 (constant Cert.AroundRefIdeal.S_ .f32 0x3F800000#32))
          (Host.exp (Host.negf x))))) w) b) Cert.AroundRefIdeal.Gen.shapeCasts_S9216_S9x1x1024 : FVec Ideal Cert.AroundRefIdeal.S9x1x1024 .f32)
      = fun i => Cert.AdaValue.layer x w b (i 0) (i 2) := by
  funext i
  obtain ⟨a, k, rfl⟩ : ∃ (a : Fin 9) (k : Fin 1024), i = (ix3 a 0 k : Cert.AroundRefIdeal.S9x1x1024.Idx) :=
    ⟨i 0, i 2, by funext b; fin_cases b; exacts [rfl, Subsingleton.elim (α := Fin 1) _ _, rfl]⟩
  exact Cert.AdaValue.ref_entry x w b a k

/-- The rows after the first feed-forward call, as the reference computes them. -/
theorem ref_first (m : (ℓ : Loc Cert.AroundRefIdeal.nD Cert.AroundRefIdeal.τ Cert.AroundRefIdeal.sig) → Buf (Elt Ideal) ℓ)
    (c : Dev Cert.AroundRefIdeal.nD) (y : FVec Ideal Cert.AroundRefIdeal.S1024 .f32) (w : FVec Ideal Cert.AroundRefIdeal.S1024x9216 .f32) (b : FVec Ideal Cert.AroundRefIdeal.S9216 .f32)
    (x : FVec Ideal Cert.AroundRefIdeal.S16384x1024 .f32) (g g' : FVec Ideal Cert.AroundRefIdeal.S1024 .f32)
    (w1 w3 : FVec Ideal Cert.AroundRefIdeal.S1024x2816 .f32) (w2 : FVec Ideal Cert.AroundRefIdeal.S2816x1024 .f32)
    (hy : m (c.tc.loc Cert.AroundRefIdeal.main_arg1) = y) (hw : m (c.tc.loc Cert.AroundRefIdeal.main_arg2) = w) (hb : m (c.tc.loc Cert.AroundRefIdeal.main_arg3) = b)
    (h0 : m (c.tc.loc Cert.AroundRefIdeal.main_arg0) = x) (h2 : m (c.tc.loc Cert.AroundRefIdeal.main_arg4) = g) (h3 : m (c.tc.loc Cert.AroundRefIdeal.main_arg5) = w1)
    (h4 : m (c.tc.loc Cert.AroundRefIdeal.main_arg6) = w3) (h5 : m (c.tc.loc Cert.AroundRefIdeal.main_arg7) = w2) (h6 : m (c.tc.loc Cert.AroundRefIdeal.main_arg8) = g')
    (r : Fin 16384) (l : Fin 1024) :
    (Cert.AroundRefIdeal.Value.res_main_v51 m c : FVec Ideal Cert.AroundRefIdeal.S16384x1024 .f32) (ix2 r l)
      = layer 0 1 2 x (fun i => Cert.AdaValue.layer y w b (i 0) (i 2)) g g' w1 w3 w2 r l := by
  unfold Cert.AroundRefIdeal.Value.res_main_v51
  rw [hy, hw, hb, h0, h2, h3, h4, h5, h6, ref_rows]
  generalize (fun i : Cert.AroundRefIdeal.S9x1x1024.Idx => Cert.AdaValue.layer y w b (i 0) (i 2)) = ada
  pointwise []
  rfl

/-- The rows after the second feed-forward call, as the reference computes them. -/
theorem ref_last (m : (ℓ : Loc Cert.AroundRefIdeal.nD Cert.AroundRefIdeal.τ Cert.AroundRefIdeal.sig) → Buf (Elt Ideal) ℓ)
    (c : Dev Cert.AroundRefIdeal.nD) (y : FVec Ideal Cert.AroundRefIdeal.S1024 .f32) (w : FVec Ideal Cert.AroundRefIdeal.S1024x9216 .f32) (b : FVec Ideal Cert.AroundRefIdeal.S9216 .f32)
    (x : FVec Ideal Cert.AroundRefIdeal.S16384x1024 .f32) (g g' : FVec Ideal Cert.AroundRefIdeal.S1024 .f32)
    (w1 w3 : FVec Ideal Cert.AroundRefIdeal.S1024x2816 .f32) (w2 : FVec Ideal Cert.AroundRefIdeal.S2816x1024 .f32)
    (hy : m (c.tc.loc Cert.AroundRefIdeal.main_arg1) = y) (hw : m (c.tc.loc Cert.AroundRefIdeal.main_arg2) = w) (hb : m (c.tc.loc Cert.AroundRefIdeal.main_arg3) = b)
    (h0 : m (c.tc.loc Cert.AroundRefIdeal.main_arg11) = x) (h2 : m (c.tc.loc Cert.AroundRefIdeal.main_arg12) = g) (h3 : m (c.tc.loc Cert.AroundRefIdeal.main_arg13) = w1)
    (h4 : m (c.tc.loc Cert.AroundRefIdeal.main_arg14) = w3) (h5 : m (c.tc.loc Cert.AroundRefIdeal.main_arg15) = w2) (h6 : m (c.tc.loc Cert.AroundRefIdeal.main_arg16) = g')
    (r : Fin 16384) (l : Fin 1024) :
    (Cert.AroundRefIdeal.Value.res_main_v99 m c : FVec Ideal Cert.AroundRefIdeal.S16384x1024 .f32) (ix2 r l)
      = layer 6 7 8 x (fun i => Cert.AdaValue.layer y w b (i 0) (i 2)) g g' w1 w3 w2 r l := by
  unfold Cert.AroundRefIdeal.Value.res_main_v99
  rw [hy, hw, hb, h0, h2, h3, h4, h5, h6, ref_rows]
  generalize (fun i : Cert.AroundRefIdeal.S9x1x1024.Idx => Cert.AdaValue.layer y w b (i 0) (i 2)) = ada
  pointwise []
  rfl

end Cert.AroundValue

end
-- ==== Proof.MixBase.lean ====
/- What the mixer kernel's body is run on, as variables: the windows' staging buffers, the scratch buffers, the blocks
   held; and what a run of it says. -/
module

public import proofs.«01_k».proof.Proof.Gen.Kernel.Frame.Runs
public import Idealize.ShloMosaic.Lib.Claim

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The world the run is stated in. -/
abbrev World (F : FTy → Type) : Type _ := MT nD τ sig Unit (Elt F) ℕ (UR sig nD τ) ℕ

/-- The stores of one run: those into the four outputs and those into the four scratch buffers, the last first. -/
structure Stores (F : FTy → Type) where
  o0 : List (View.Piece (Elt F) S512x1024 .f32)
  o1 : List (View.Piece (Elt F) S32x2816 .bf16)
  o2 : List (View.Piece (Elt F) S32x2816 .bf16)
  o3 : List (View.Piece (Elt F) S176x1024 .bf16)
  s0 : List (View.Piece (Elt F) S1x1536 .f32)
  s1 : List (View.Piece (Elt F) S1x256 .f32)
  s2 : List (View.Piece (Elt F) S2x512 .f32)
  s3 : List (View.Piece (Elt F) S4x128x128 .f32)

/-- What the four scratch buffers hold between two points: the last row of the channels and of the low-rank columns, the last two
    rows of the convolution's product, the state. -/
structure Carry (F : FTy → Type) where
  rw : Vec F S1x1536 .f32
  lo : Vec F S1x256 .f32
  cv : Vec F S2x512 .f32
  st : Vec F S4x128x128 .f32

variable (c : Dev nD) (i : grid0.Coords)
  (arg1 : Memref sig .tc .vmem S512x1024 .f32) (harg1 : arg1.IsWhole)
  (arg2 : Memref sig .tc .vmem S9x1x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1024x256 .bf16) (harg5 : arg5.IsWhole)
  (arg6 : Memref sig .tc .vmem S1x1536 .f32) (harg6 : arg6.IsWhole)
  (arg7 : Memref sig .tc .vmem S1x256 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S256x1536 .bf16) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S256x256 .bf16) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S32x2816 .f32) (harg20 : arg20.IsWhole)
  (arg21 : Memref sig .tc .vmem S32x2816 .f32) (harg21 : arg21.IsWhole)
  (arg22 : Memref sig .tc .vmem S176x1024 .f32) (harg22 : arg22.IsWhole)
  (arg23 : Memref sig .tc .vmem S512x1024 .f32) (harg23 : arg23.IsWhole)
  (arg24 : Memref sig .tc .vmem S32x2816 .bf16) (harg24 : arg24.IsWhole)
  (arg25 : Memref sig .tc .vmem S32x2816 .bf16) (harg25 : arg25.IsWhole)
  (arg26 : Memref sig .tc .vmem S176x1024 .bf16) (harg26 : arg26.IsWhole)
  (arg27 : Memref sig .tc .vmem S1x1536 .f32) (harg27 : arg27.IsWhole)
  (arg28 : Memref sig .tc .vmem S1x256 .f32) (harg28 : arg28.IsWhole)
  (arg29 : Memref sig .tc .vmem S2x512 .f32) (harg29 : arg29.IsWhole)
  (arg30 : Memref sig .tc .vmem S4x128x128 .f32) (harg30 : arg30.IsWhole)
  (x0 : Vec F S512x1024 .f32) (x1 : Vec F S9x1x1024 .f32) (x2 : Vec F S1x1024 .f32)
  (x3 : Vec F S1024x3072 .bf16) (x4 : Vec F S1024x256 .bf16) (x5 : Vec F S1x1536 .f32)
  (x6 : Vec F S1x256 .f32) (x7 : Vec F S3x512 .f32) (x8 : Vec F S1x512 .f32) (x9 : Vec F S1x512 .f32)
  (x10 : Vec F S256x1536 .bf16) (x11 : Vec F S1x512 .f32) (x12 : Vec F S1x512 .f32) (x13 : Vec F S1x512 .f32)
  (x14 : Vec F S1x512 .f32) (x15 : Vec F S1x512 .f32) (x16 : Vec F S256x256 .bf16)
  (x17 : Vec F S1024x1024 .bf16) (x18 : Vec F S1x1024 .f32) (x19 : Vec F S32x2816 .f32)
  (x20 : Vec F S32x2816 .f32) (x21 : Vec F S176x1024 .f32)

/-- The inputs, held. -/
def ins : sProp (World F) := iprop(
    owns (c : Thread nD τ) arg1 fullShare x0 ∗ owns (c : Thread nD τ) arg2 fullShare x1 ∗
    owns (c : Thread nD τ) arg3 fullShare x2 ∗ owns (c : Thread nD τ) arg4 fullShare x3 ∗
    owns (c : Thread nD τ) arg5 fullShare x4 ∗ owns (c : Thread nD τ) arg6 fullShare x5 ∗
    owns (c : Thread nD τ) arg7 fullShare x6 ∗ owns (c : Thread nD τ) arg8 fullShare x7 ∗
    owns (c : Thread nD τ) arg9 fullShare x8 ∗ owns (c : Thread nD τ) arg10 fullShare x9 ∗
    owns (c : Thread nD τ) arg11 fullShare x10 ∗ owns (c : Thread nD τ) arg12 fullShare x11 ∗
    owns (c : Thread nD τ) arg13 fullShare x12 ∗ owns (c : Thread nD τ) arg14 fullShare x13 ∗
    owns (c : Thread nD τ) arg15 fullShare x14 ∗ owns (c : Thread nD τ) arg16 fullShare x15 ∗
    owns (c : Thread nD τ) arg17 fullShare x16 ∗ owns (c : Thread nD τ) arg18 fullShare x17 ∗
    owns (c : Thread nD τ) arg19 fullShare x18 ∗ owns (c : Thread nD τ) arg20 fullShare x19 ∗
    owns (c : Thread nD τ) arg21 fullShare x20 ∗ owns (c : Thread nD τ) arg22 fullShare x21)

/-- The outputs, holding anything. -/
def outs : sProp (World F) := iprop(
    (∃ d, owns (c : Thread nD τ) arg23 fullShare d) ∗ (∃ d, owns (c : Thread nD τ) arg24 fullShare d) ∗
    (∃ d, owns (c : Thread nD τ) arg25 fullShare d) ∗ (∃ d, owns (c : Thread nD τ) arg26 fullShare d))

/-- The scratch buffers, holding anything. -/
def anyCarry : sProp (World F) := iprop(
    (∃ d, owns (c : Thread nD τ) arg27 fullShare d) ∗ (∃ d, owns (c : Thread nD τ) arg28 fullShare d) ∗
    (∃ d, owns (c : Thread nD τ) arg29 fullShare d) ∗ (∃ d, owns (c : Thread nD τ) arg30 fullShare d))

/-- The scratch buffers at given contents. -/
def holds (s : Carry F) : sProp (World F) := iprop(
    owns (c : Thread nD τ) arg27 fullShare s.rw ∗ owns (c : Thread nD τ) arg28 fullShare s.lo ∗
    owns (c : Thread nD τ) arg29 fullShare s.cv ∗ owns (c : Thread nD τ) arg30 fullShare s.st)

/-- The eight buffers stored into, after a run's stores. -/
def wrote (L : Stores F) : sProp (World F) := iprop(
    (∃ f, arg23.view.loc (c : Thread nD τ) ↦[arg23.view.set]{fullShare} arg23.view.writes (Elt F) f L.o0) ∗
    (∃ f, arg24.view.loc (c : Thread nD τ) ↦[arg24.view.set]{fullShare} arg24.view.writes (Elt F) f L.o1) ∗
    (∃ f, arg25.view.loc (c : Thread nD τ) ↦[arg25.view.set]{fullShare} arg25.view.writes (Elt F) f L.o2) ∗
    (∃ f, arg26.view.loc (c : Thread nD τ) ↦[arg26.view.set]{fullShare} arg26.view.writes (Elt F) f L.o3) ∗
    (∃ f, arg27.view.loc (c : Thread nD τ) ↦[arg27.view.set]{fullShare} arg27.view.writes (Elt F) f L.s0) ∗
    (∃ f, arg28.view.loc (c : Thread nD τ) ↦[arg28.view.set]{fullShare} arg28.view.writes (Elt F) f L.s1) ∗
    (∃ f, arg29.view.loc (c : Thread nD τ) ↦[arg29.view.set]{fullShare} arg29.view.writes (Elt F) f L.s2) ∗
    (∃ f, arg30.view.loc (c : Thread nD τ) ↦[arg30.view.set]{fullShare} arg30.view.writes (Elt F) f L.s3))

/-- The body, from the inputs and some contents of the scratch, makes the stores `L` and leaves the inputs. -/
def Runs (pre : sProp (World F)) (L : Stores F) : Prop :=
  ∀ K : PUnit → sProp (World F),
    iprop(ins c
        arg1 arg2 arg3 arg4 arg5 arg6 arg7 arg8 arg9 arg10 arg11 arg12 arg13 arg14 arg15 arg16 arg17 arg18
        arg19 arg20 arg21 arg22 x0 x1 x2 x3 x4 x5 x6 x7 x8 x9 x10 x11 x12 x13 x14 x15 x16 x17 x18 x19 x20 x21
      ∗ outs c arg23 arg24 arg25 arg26
      ∗ pre
      ∗ (iprop(ins c
        arg1 arg2 arg3 arg4 arg5 arg6 arg7 arg8 arg9 arg10 arg11 arg12 arg13 arg14 arg15 arg16 arg17 arg18
        arg19 arg20 arg21 arg22 x0 x1 x2 x3 x4 x5 x6 x7 x8 x9 x10 x11 x12 x13 x14 x15 x16 x17 x18 x19 x20 x21
        ∗ wrote c arg23 arg24 arg25 arg26 arg27 arg28 arg29 arg30 L) -∗ K ⟨⟩))
    ⊢ wp frame (wpE (defs₀ (F := F)) Variants.none c none) Set.univ
        (cc0_token_mixing i
    arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25
    arg26 harg26 arg27 harg27 arg28 harg28 arg29 harg29 arg30 harg30) K

end Cert.Mix

end
-- ==== Proof.FlatFirst.lean ====
/- The body of the mixer kernel at the first point of the grid, where the scratch buffers are cleared. -/
module

public import proofs.«01_k».proof.Proof.Gen.Kernel.Frame.Runs
public import proofs.«01_k».proof.Proof.MixBase

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- The body run from given inputs: the stores it makes are found by running it. -/
def flatFirst (c : Dev nD) (i : grid0.Coords) (arg1 : Memref sig .tc .vmem S512x1024 .f32) (harg1 : arg1.IsWhole) (arg2 : Memref sig .tc .vmem
  S9x1x1024 .f32) (harg2 : arg2.IsWhole) (arg3 : Memref sig .tc .vmem S1x1024 .f32) (harg3 : arg3.IsWhole) (arg4 : Memref sig .tc .vmem S1024x3072
  .bf16) (harg4 : arg4.IsWhole) (arg5 : Memref sig .tc .vmem S1024x256 .bf16) (harg5 : arg5.IsWhole) (arg6 : Memref sig .tc .vmem S1x1536 .f32) (harg6
  : arg6.IsWhole) (arg7 : Memref sig .tc .vmem S1x256 .f32) (harg7 : arg7.IsWhole) (arg8 : Memref sig .tc .vmem S3x512 .f32) (harg8 : arg8.IsWhole)
  (arg9 : Memref sig .tc .vmem S1x512 .f32) (harg9 : arg9.IsWhole) (arg10 : Memref sig .tc .vmem S1x512 .f32) (harg10 : arg10.IsWhole) (arg11 : Memref
  sig .tc .vmem S256x1536 .bf16) (harg11 : arg11.IsWhole) (arg12 : Memref sig .tc .vmem S1x512 .f32) (harg12 : arg12.IsWhole) (arg13 : Memref sig .tc
  .vmem S1x512 .f32) (harg13 : arg13.IsWhole) (arg14 : Memref sig .tc .vmem S1x512 .f32) (harg14 : arg14.IsWhole) (arg15 : Memref sig .tc .vmem S1x512
  .f32) (harg15 : arg15.IsWhole) (arg16 : Memref sig .tc .vmem S1x512 .f32) (harg16 : arg16.IsWhole) (arg17 : Memref sig .tc .vmem S256x256 .bf16)
  (harg17 : arg17.IsWhole) (arg18 : Memref sig .tc .vmem S1024x1024 .bf16) (harg18 : arg18.IsWhole) (arg19 : Memref sig .tc .vmem S1x1024 .f32)
  (harg19 : arg19.IsWhole) (arg20 : Memref sig .tc .vmem S32x2816 .f32) (harg20 : arg20.IsWhole) (arg21 : Memref sig .tc .vmem S32x2816 .f32) (harg21
  : arg21.IsWhole) (arg22 : Memref sig .tc .vmem S176x1024 .f32) (harg22 : arg22.IsWhole) (arg23 : Memref sig .tc .vmem S512x1024 .f32) (harg23 :
  arg23.IsWhole) (arg24 : Memref sig .tc .vmem S32x2816 .bf16) (harg24 : arg24.IsWhole) (arg25 : Memref sig .tc .vmem S32x2816 .bf16) (harg25 :
  arg25.IsWhole) (arg26 : Memref sig .tc .vmem S176x1024 .bf16) (harg26 : arg26.IsWhole) (arg27 : Memref sig .tc .vmem S1x1536 .f32) (harg27 :
  arg27.IsWhole) (arg28 : Memref sig .tc .vmem S1x256 .f32) (harg28 : arg28.IsWhole) (arg29 : Memref sig .tc .vmem S2x512 .f32) (harg29 :
  arg29.IsWhole) (arg30 : Memref sig .tc .vmem S4x128x128 .f32) (harg30 : arg30.IsWhole) (hc0 : cond0_0 i)
    (x0 : Vec F S512x1024 .f32) (x1 : Vec F S9x1x1024 .f32) (x2 : Vec F S1x1024 .f32) (x3 : Vec F S1024x3072 .bf16) (x4 : Vec F S1024x256 .bf16) (x5 :
      Vec F S1x1536 .f32) (x6 : Vec F S1x256 .f32) (x7 : Vec F S3x512 .f32) (x8 : Vec F S1x512 .f32) (x9 : Vec F S1x512 .f32) (x10 : Vec F S256x1536
      .bf16) (x11 : Vec F S1x512 .f32) (x12 : Vec F S1x512 .f32) (x13 : Vec F S1x512 .f32) (x14 : Vec F S1x512 .f32) (x15 : Vec F S1x512 .f32) (x16 :
      Vec F S256x256 .bf16) (x17 : Vec F S1024x1024 .bf16) (x18 : Vec F S1x1024 .f32) (x19 : Vec F S32x2816 .f32) (x20 : Vec F S32x2816 .f32) (x21 :
      Vec F S176x1024 .f32) :
    Σ' (L22 : List (View.Piece (Elt F) S512x1024 .f32)), Σ' (L23 : List (View.Piece (Elt F) S32x2816 .bf16)), Σ' (L24 : List (View.Piece (Elt F)
      S32x2816 .bf16)), Σ' (L25 : List (View.Piece (Elt F) S176x1024 .bf16)), Σ' (LS0 : List (View.Piece (Elt F) S1x1536 .f32)), Σ' (LS1 : List
      (View.Piece (Elt F) S1x256 .f32)), Σ' (LS2 : List (View.Piece (Elt F) S2x512 .f32)), { LS3 : List (View.Piece (Elt F) S4x128x128 .f32) //
      ∀ (E : Set ℕ) (K : PUnit → sProp (World F)),
        iprop(owns (c : Thread nD τ) arg1 fullShare x0 ∗ owns (c : Thread nD τ) arg2 fullShare x1 ∗ owns (c : Thread nD τ) arg3 fullShare x2 ∗ owns (c
          : Thread nD τ) arg4 fullShare x3 ∗ owns (c : Thread nD τ) arg5 fullShare x4 ∗ owns (c : Thread nD τ) arg6 fullShare x5 ∗ owns (c : Thread nD
          τ) arg7 fullShare x6 ∗ owns (c : Thread nD τ) arg8 fullShare x7 ∗ owns (c : Thread nD τ) arg9 fullShare x8 ∗ owns (c : Thread nD τ) arg10
          fullShare x9 ∗ owns (c : Thread nD τ) arg11 fullShare x10 ∗ owns (c : Thread nD τ) arg12 fullShare x11 ∗ owns (c : Thread nD τ) arg13
          fullShare x12 ∗ owns (c : Thread nD τ) arg14 fullShare x13 ∗ owns (c : Thread nD τ) arg15 fullShare x14 ∗ owns (c : Thread nD τ) arg16
          fullShare x15 ∗ owns (c : Thread nD τ) arg17 fullShare x16 ∗ owns (c : Thread nD τ) arg18 fullShare x17 ∗ owns (c : Thread nD τ) arg19
          fullShare x18 ∗ owns (c : Thread nD τ) arg20 fullShare x19 ∗ owns (c : Thread nD τ) arg21 fullShare x20 ∗ owns (c : Thread nD τ) arg22
          fullShare x21 ∗ (∃ d, owns (c : Thread nD τ) arg23 fullShare d) ∗ (∃ d, owns (c : Thread nD τ) arg24 fullShare d) ∗ (∃ d, owns (c : Thread
          nD τ) arg25 fullShare d) ∗ (∃ d, owns (c : Thread nD τ) arg26 fullShare d) ∗ (∃ d, owns (c : Thread nD τ) arg27 fullShare d) ∗ (∃ d, owns (c
          : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗
              owns (c : Thread nD τ) arg4 fullShare x3 ∗ owns (c : Thread nD τ) arg5 fullShare x4 ∗ owns (c : Thread nD τ) arg6 fullShare x5 ∗ owns (c
              : Thread nD τ) arg7 fullShare x6 ∗ owns (c : Thread nD τ) arg8 fullShare x7 ∗ owns (c : Thread nD τ) arg9 fullShare x8 ∗ owns (c :
              Thread nD τ) arg10 fullShare x9 ∗ owns (c : Thread nD τ) arg11 fullShare x10 ∗ owns (c : Thread nD τ) arg12 fullShare x11 ∗ owns (c :
              Thread nD τ) arg13 fullShare x12 ∗ owns (c : Thread nD τ) arg14 fullShare x13 ∗ owns (c : Thread nD τ) arg15 fullShare x14 ∗ owns (c :
              Thread nD τ) arg16 fullShare x15 ∗ owns (c : Thread nD τ) arg17 fullShare x16 ∗ owns (c : Thread nD τ) arg18 fullShare x17 ∗ owns (c :
              Thread nD τ) arg19 fullShare x18 ∗ owns (c : Thread nD τ) arg20 fullShare x19 ∗ owns (c : Thread nD τ) arg21 fullShare x20 ∗ owns (c :
              Thread nD τ) arg22 fullShare x21 ∗ (∃ f, arg23.view.loc (c : Thread nD τ) ↦[arg23.view.set]{fullShare} arg23.view.writes (Elt F) f L22)
              ∗ (∃ f, arg24.view.loc (c : Thread nD τ) ↦[arg24.view.set]{fullShare} arg24.view.writes (Elt F) f L23) ∗ (∃ f, arg25.view.loc (c :
              Thread nD τ) ↦[arg25.view.set]{fullShare} arg25.view.writes (Elt F) f L24) ∗ (∃ f, arg26.view.loc (c : Thread nD τ)
              ↦[arg26.view.set]{fullShare} arg26.view.writes (Elt F) f L25) ∗ (∃ f, arg27.view.loc (c : Thread nD τ) ↦[arg27.view.set]{fullShare}
              arg27.view.writes (Elt F) f LS0) ∗ (∃ f, arg28.view.loc (c : Thread nD τ) ↦[arg28.view.set]{fullShare} arg28.view.writes (Elt F) f LS1)
              ∗ (∃ f, arg29.view.loc (c : Thread nD τ) ↦[arg29.view.set]{fullShare} arg29.view.writes (Elt F) f LS2) ∗ (∃ f, arg30.view.loc (c :
              Thread nD τ) ↦[arg30.view.set]{fullShare} arg30.view.writes (Elt F) f LS3)) -∗ K ⟨⟩))
          ⊢ wp frame (wpE (defs₀ (F := F)) Variants.none c none) E (cc0_token_mixing i arg1 harg1 arg2 harg2 arg3 harg3 arg4 harg4 arg5 harg5 arg6
            harg6 arg7 harg7 arg8 harg8 arg9 harg9 arg10 harg10 arg11 harg11 arg12 harg12 arg13 harg13 arg14 harg14 arg15 harg15 arg16 harg16 arg17
            harg17 arg18 harg18 arg19 harg19 arg20 harg20 arg21 harg21 arg22 harg22 arg23 harg23 arg24 harg24 arg25 harg25 arg26 harg26 arg27 harg27
            arg28 harg28 arg29 harg29 arg30 harg30) K } := by
  refine ⟨?_, ?_, ?_, ?_, ?_, ?_, ?_, ?_, fun E K => ?run⟩
  case run =>
    simp only [cc0_token_mixing_eq_skeleton]; unfold cc0_token_mixing_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15,
      %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22,
      %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -,
      HS2⟩, ⟨%ds3, %fs3, -, HS3⟩, Hk⟩
    obtain rfl := harg1.eq_unread hf0; obtain rfl := harg2.eq_unread hf1; obtain rfl := harg3.eq_unread hf2; obtain rfl := harg4.eq_unread hf3; obtain
      rfl := harg5.eq_unread hf4; obtain rfl := harg6.eq_unread hf5; obtain rfl := harg7.eq_unread hf6; obtain rfl := harg8.eq_unread hf7; obtain rfl
      := harg9.eq_unread hf8; obtain rfl := harg10.eq_unread hf9; obtain rfl := harg11.eq_unread hf10; obtain rfl := harg12.eq_unread hf11; obtain rfl
      := harg13.eq_unread hf12; obtain rfl := harg14.eq_unread hf13; obtain rfl := harg15.eq_unread hf14; obtain rfl := harg16.eq_unread hf15; obtain
      rfl := harg17.eq_unread hf16; obtain rfl := harg18.eq_unread hf17; obtain rfl := harg19.eq_unread hf18; obtain rfl := harg20.eq_unread hf19;
      obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    iexists _; iexact HS3

end Cert.Mix

end
-- ==== Proof.MixFirst.lean ====
/- The body of the mixer kernel at the first point of the grid, where the scratch buffers are cleared. -/
module

public import proofs.«01_k».proof.Proof.Gen.Kernel.Frame.Runs
public import proofs.«01_k».proof.Proof.FlatFirst

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S512x1024 .f32) (harg1 : arg1.IsWhole)
  (arg2 : Memref sig .tc .vmem S9x1x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1024x256 .bf16) (harg5 : arg5.IsWhole)
  (arg6 : Memref sig .tc .vmem S1x1536 .f32) (harg6 : arg6.IsWhole)
  (arg7 : Memref sig .tc .vmem S1x256 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S256x1536 .bf16) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S256x256 .bf16) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S32x2816 .f32) (harg20 : arg20.IsWhole)
  (arg21 : Memref sig .tc .vmem S32x2816 .f32) (harg21 : arg21.IsWhole)
  (arg22 : Memref sig .tc .vmem S176x1024 .f32) (harg22 : arg22.IsWhole)
  (arg23 : Memref sig .tc .vmem S512x1024 .f32) (harg23 : arg23.IsWhole)
  (arg24 : Memref sig .tc .vmem S32x2816 .bf16) (harg24 : arg24.IsWhole)
  (arg25 : Memref sig .tc .vmem S32x2816 .bf16) (harg25 : arg25.IsWhole)
  (arg26 : Memref sig .tc .vmem S176x1024 .bf16) (harg26 : arg26.IsWhole)
  (arg27 : Memref sig .tc .vmem S1x1536 .f32) (harg27 : arg27.IsWhole)
  (arg28 : Memref sig .tc .vmem S1x256 .f32) (harg28 : arg28.IsWhole)
  (arg29 : Memref sig .tc .vmem S2x512 .f32) (harg29 : arg29.IsWhole)
  (arg30 : Memref sig .tc .vmem S4x128x128 .f32) (harg30 : arg30.IsWhole)
  (x0 : Vec F S512x1024 .f32) (x1 : Vec F S9x1x1024 .f32) (x2 : Vec F S1x1024 .f32)
  (x3 : Vec F S1024x3072 .bf16) (x4 : Vec F S1024x256 .bf16) (x5 : Vec F S1x1536 .f32)
  (x6 : Vec F S1x256 .f32) (x7 : Vec F S3x512 .f32) (x8 : Vec F S1x512 .f32) (x9 : Vec F S1x512 .f32)
  (x10 : Vec F S256x1536 .bf16) (x11 : Vec F S1x512 .f32) (x12 : Vec F S1x512 .f32) (x13 : Vec F S1x512 .f32)
  (x14 : Vec F S1x512 .f32) (x15 : Vec F S1x512 .f32) (x16 : Vec F S256x256 .bf16)
  (x17 : Vec F S1024x1024 .bf16) (x18 : Vec F S1x1024 .f32) (x19 : Vec F S32x2816 .f32)
  (x20 : Vec F S32x2816 .f32) (x21 : Vec F S176x1024 .f32)

set_option maxHeartbeats 0 in
/-- mixFirst: the stores found by running the body. -/
def mixFirst (hc : cond0_0 i) :
    { L : Stores F // Runs c i
    arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25
    arg26 harg26 arg27 harg27 arg28 harg28 arg29 harg29 arg30 harg30
        x0 x1 x2 x3 x4 x5 x6 x7 x8 x9 x10 x11 x12 x13 x14 x15 x16 x17 x18 x19 x20 x21
        (anyCarry c arg27 arg28 arg29 arg30) L } := by
  let R := flatFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc x0 x1 x2 x3 x4 x5 x6 x7 x8 x9 x10 x11 x12 x13 x14 x15 x16 x17 x18 x19 x20 x21
  exact ⟨⟨R.1, R.2.1, R.2.2.1, R.2.2.2.1, R.2.2.2.2.1, R.2.2.2.2.2.1, R.2.2.2.2.2.2.1, R.2.2.2.2.2.2.2.1⟩, by
    have h := R.2.2.2.2.2.2.2.2
    intro K
    unfold ins outs anyCarry wrote
    refine BIBase.Entails.trans ?_ (h Set.univ K)
    iintro ⟨⟨H0, H1, H2, H3, H4, H5, H6, H7, H8, H9, H10, H11, H12, H13, H14, H15, H16, H17, H18, H19, H20, H21⟩, ⟨O0, O1, O2, O3⟩, ⟨S0, S1, S2, S3⟩, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [O0]; · iexact O0
    isplitl [O1]; · iexact O1
    isplitl [O2]; · iexact O2
    isplitl [O3]; · iexact O3
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, H17, H18, H19, H20, H21, O0, O1, O2, O3, S0, S1, S2, S3⟩
    iapply Hk
    isplitl [H0 H1 H2 H3 H4 H5 H6 H7 H8 H9 H10 H11 H12 H13 H14 H15 H16 H17 H18 H19 H20 H21]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [O0]; · iexact O0
    isplitl [O1]; · iexact O1
    isplitl [O2]; · iexact O2
    isplitl [O3]; · iexact O3
    isplitl [S0]; · iexact S0
    isplitl [S1]; · iexact S1
    isplitl [S2]; · iexact S2
    iexact S3⟩

end Cert.Mix

end
-- ==== Proof.FlatNext.lean ====
/- The body of the mixer kernel at a later point of the grid, where the scratch buffers hold what the point before left. -/
module

public import proofs.«01_k».proof.Proof.Gen.Kernel.Frame.Runs
public import proofs.«01_k».proof.Proof.MixBase

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- The body run from given inputs: the stores it makes are found by running it. -/
def flatNext (c : Dev nD) (i : grid0.Coords) (arg1 : Memref sig .tc .vmem S512x1024 .f32) (harg1 : arg1.IsWhole) (arg2 : Memref sig .tc .vmem
  S9x1x1024 .f32) (harg2 : arg2.IsWhole) (arg3 : Memref sig .tc .vmem S1x1024 .f32) (harg3 : arg3.IsWhole) (arg4 : Memref sig .tc .vmem S1024x3072
  .bf16) (harg4 : arg4.IsWhole) (arg5 : Memref sig .tc .vmem S1024x256 .bf16) (harg5 : arg5.IsWhole) (arg6 : Memref sig .tc .vmem S1x1536 .f32) (harg6
  : arg6.IsWhole) (arg7 : Memref sig .tc .vmem S1x256 .f32) (harg7 : arg7.IsWhole) (arg8 : Memref sig .tc .vmem S3x512 .f32) (harg8 : arg8.IsWhole)
  (arg9 : Memref sig .tc .vmem S1x512 .f32) (harg9 : arg9.IsWhole) (arg10 : Memref sig .tc .vmem S1x512 .f32) (harg10 : arg10.IsWhole) (arg11 : Memref
  sig .tc .vmem S256x1536 .bf16) (harg11 : arg11.IsWhole) (arg12 : Memref sig .tc .vmem S1x512 .f32) (harg12 : arg12.IsWhole) (arg13 : Memref sig .tc
  .vmem S1x512 .f32) (harg13 : arg13.IsWhole) (arg14 : Memref sig .tc .vmem S1x512 .f32) (harg14 : arg14.IsWhole) (arg15 : Memref sig .tc .vmem S1x512
  .f32) (harg15 : arg15.IsWhole) (arg16 : Memref sig .tc .vmem S1x512 .f32) (harg16 : arg16.IsWhole) (arg17 : Memref sig .tc .vmem S256x256 .bf16)
  (harg17 : arg17.IsWhole) (arg18 : Memref sig .tc .vmem S1024x1024 .bf16) (harg18 : arg18.IsWhole) (arg19 : Memref sig .tc .vmem S1x1024 .f32)
  (harg19 : arg19.IsWhole) (arg20 : Memref sig .tc .vmem S32x2816 .f32) (harg20 : arg20.IsWhole) (arg21 : Memref sig .tc .vmem S32x2816 .f32) (harg21
  : arg21.IsWhole) (arg22 : Memref sig .tc .vmem S176x1024 .f32) (harg22 : arg22.IsWhole) (arg23 : Memref sig .tc .vmem S512x1024 .f32) (harg23 :
  arg23.IsWhole) (arg24 : Memref sig .tc .vmem S32x2816 .bf16) (harg24 : arg24.IsWhole) (arg25 : Memref sig .tc .vmem S32x2816 .bf16) (harg25 :
  arg25.IsWhole) (arg26 : Memref sig .tc .vmem S176x1024 .bf16) (harg26 : arg26.IsWhole) (arg27 : Memref sig .tc .vmem S1x1536 .f32) (harg27 :
  arg27.IsWhole) (arg28 : Memref sig .tc .vmem S1x256 .f32) (harg28 : arg28.IsWhole) (arg29 : Memref sig .tc .vmem S2x512 .f32) (harg29 :
  arg29.IsWhole) (arg30 : Memref sig .tc .vmem S4x128x128 .f32) (harg30 : arg30.IsWhole) (hc0 : ¬cond0_0 i)
    (x0 : Vec F S512x1024 .f32) (x1 : Vec F S9x1x1024 .f32) (x2 : Vec F S1x1024 .f32) (x3 : Vec F S1024x3072 .bf16) (x4 : Vec F S1024x256 .bf16) (x5 :
      Vec F S1x1536 .f32) (x6 : Vec F S1x256 .f32) (x7 : Vec F S3x512 .f32) (x8 : Vec F S1x512 .f32) (x9 : Vec F S1x512 .f32) (x10 : Vec F S256x1536
      .bf16) (x11 : Vec F S1x512 .f32) (x12 : Vec F S1x512 .f32) (x13 : Vec F S1x512 .f32) (x14 : Vec F S1x512 .f32) (x15 : Vec F S1x512 .f32) (x16 :
      Vec F S256x256 .bf16) (x17 : Vec F S1024x1024 .bf16) (x18 : Vec F S1x1024 .f32) (x19 : Vec F S32x2816 .f32) (x20 : Vec F S32x2816 .f32) (x21 :
      Vec F S176x1024 .f32) (xs0 : Vec F S1x1536 .f32) (xs1 : Vec F S1x256 .f32) (xs2 : Vec F S2x512 .f32) (xs3 : Vec F S4x128x128 .f32) :
    Σ' (L22 : List (View.Piece (Elt F) S512x1024 .f32)), Σ' (L23 : List (View.Piece (Elt F) S32x2816 .bf16)), Σ' (L24 : List (View.Piece (Elt F)
      S32x2816 .bf16)), Σ' (L25 : List (View.Piece (Elt F) S176x1024 .bf16)), Σ' (LS0 : List (View.Piece (Elt F) S1x1536 .f32)), Σ' (LS1 : List
      (View.Piece (Elt F) S1x256 .f32)), Σ' (LS2 : List (View.Piece (Elt F) S2x512 .f32)), { LS3 : List (View.Piece (Elt F) S4x128x128 .f32) //
      ∀ (E : Set ℕ) (K : PUnit → sProp (World F)),
        iprop(owns (c : Thread nD τ) arg1 fullShare x0 ∗ owns (c : Thread nD τ) arg2 fullShare x1 ∗ owns (c : Thread nD τ) arg3 fullShare x2 ∗ owns (c
          : Thread nD τ) arg4 fullShare x3 ∗ owns (c : Thread nD τ) arg5 fullShare x4 ∗ owns (c : Thread nD τ) arg6 fullShare x5 ∗ owns (c : Thread nD
          τ) arg7 fullShare x6 ∗ owns (c : Thread nD τ) arg8 fullShare x7 ∗ owns (c : Thread nD τ) arg9 fullShare x8 ∗ owns (c : Thread nD τ) arg10
          fullShare x9 ∗ owns (c : Thread nD τ) arg11 fullShare x10 ∗ owns (c : Thread nD τ) arg12 fullShare x11 ∗ owns (c : Thread nD τ) arg13
          fullShare x12 ∗ owns (c : Thread nD τ) arg14 fullShare x13 ∗ owns (c : Thread nD τ) arg15 fullShare x14 ∗ owns (c : Thread nD τ) arg16
          fullShare x15 ∗ owns (c : Thread nD τ) arg17 fullShare x16 ∗ owns (c : Thread nD τ) arg18 fullShare x17 ∗ owns (c : Thread nD τ) arg19
          fullShare x18 ∗ owns (c : Thread nD τ) arg20 fullShare x19 ∗ owns (c : Thread nD τ) arg21 fullShare x20 ∗ owns (c : Thread nD τ) arg22
          fullShare x21 ∗ (∃ d, owns (c : Thread nD τ) arg23 fullShare d) ∗ (∃ d, owns (c : Thread nD τ) arg24 fullShare d) ∗ (∃ d, owns (c : Thread
          nD τ) arg25 fullShare d) ∗ (∃ d, owns (c : Thread nD τ) arg26 fullShare d) ∗ owns (c : Thread nD τ) arg27 fullShare xs0 ∗ owns (c : Thread
          nD τ) arg28 fullShare xs1 ∗ owns (c : Thread nD τ) arg29 fullShare xs2 ∗ owns (c : Thread nD τ) arg30 fullShare xs3
            ∗ (iprop(owns (c : Thread nD τ) arg1 fullShare x0 ∗ owns (c : Thread nD τ) arg2 fullShare x1 ∗ owns (c : Thread nD τ) arg3 fullShare x2 ∗
              owns (c : Thread nD τ) arg4 fullShare x3 ∗ owns (c : Thread nD τ) arg5 fullShare x4 ∗ owns (c : Thread nD τ) arg6 fullShare x5 ∗ owns (c
              : Thread nD τ) arg7 fullShare x6 ∗ owns (c : Thread nD τ) arg8 fullShare x7 ∗ owns (c : Thread nD τ) arg9 fullShare x8 ∗ owns (c :
              Thread nD τ) arg10 fullShare x9 ∗ owns (c : Thread nD τ) arg11 fullShare x10 ∗ owns (c : Thread nD τ) arg12 fullShare x11 ∗ owns (c :
              Thread nD τ) arg13 fullShare x12 ∗ owns (c : Thread nD τ) arg14 fullShare x13 ∗ owns (c : Thread nD τ) arg15 fullShare x14 ∗ owns (c :
              Thread nD τ) arg16 fullShare x15 ∗ owns (c : Thread nD τ) arg17 fullShare x16 ∗ owns (c : Thread nD τ) arg18 fullShare x17 ∗ owns (c :
              Thread nD τ) arg19 fullShare x18 ∗ owns (c : Thread nD τ) arg20 fullShare x19 ∗ owns (c : Thread nD τ) arg21 fullShare x20 ∗ owns (c :
              Thread nD τ) arg22 fullShare x21 ∗ (∃ f, arg23.view.loc (c : Thread nD τ) ↦[arg23.view.set]{fullShare} arg23.view.writes (Elt F) f L22)
              ∗ (∃ f, arg24.view.loc (c : Thread nD τ) ↦[arg24.view.set]{fullShare} arg24.view.writes (Elt F) f L23) ∗ (∃ f, arg25.view.loc (c :
              Thread nD τ) ↦[arg25.view.set]{fullShare} arg25.view.writes (Elt F) f L24) ∗ (∃ f, arg26.view.loc (c : Thread nD τ)
              ↦[arg26.view.set]{fullShare} arg26.view.writes (Elt F) f L25) ∗ (∃ f, arg27.view.loc (c : Thread nD τ) ↦[arg27.view.set]{fullShare}
              arg27.view.writes (Elt F) f LS0) ∗ (∃ f, arg28.view.loc (c : Thread nD τ) ↦[arg28.view.set]{fullShare} arg28.view.writes (Elt F) f LS1)
              ∗ (∃ f, arg29.view.loc (c : Thread nD τ) ↦[arg29.view.set]{fullShare} arg29.view.writes (Elt F) f LS2) ∗ (∃ f, arg30.view.loc (c :
              Thread nD τ) ↦[arg30.view.set]{fullShare} arg30.view.writes (Elt F) f LS3)) -∗ K ⟨⟩))
          ⊢ wp frame (wpE (defs₀ (F := F)) Variants.none c none) E (cc0_token_mixing i arg1 harg1 arg2 harg2 arg3 harg3 arg4 harg4 arg5 harg5 arg6
            harg6 arg7 harg7 arg8 harg8 arg9 harg9 arg10 harg10 arg11 harg11 arg12 harg12 arg13 harg13 arg14 harg14 arg15 harg15 arg16 harg16 arg17
            harg17 arg18 harg18 arg19 harg19 arg20 harg20 arg21 harg21 arg22 harg22 arg23 harg23 arg24 harg24 arg25 harg25 arg26 harg26 arg27 harg27
            arg28 harg28 arg29 harg29 arg30 harg30) K } := by
  refine ⟨?_, ?_, ?_, ?_, ?_, ?_, ?_, ?_, fun E K => ?run⟩
  case run =>
    simp only [cc0_token_mixing_eq_skeleton]; unfold cc0_token_mixing_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15,
      %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22,
      %f22, -, H22⟩, ⟨%d23, %f23, -, H23⟩, ⟨%d24, %f24, -, H24⟩, ⟨%d25, %f25, -, H25⟩, ⟨%fs0, %hfs0, HS0⟩, ⟨%fs1, %hfs1, HS1⟩, ⟨%fs2, %hfs2, HS2⟩,
      ⟨%fs3, %hfs3, HS3⟩, Hk⟩
    obtain rfl := harg1.eq_unread hf0; obtain rfl := harg2.eq_unread hf1; obtain rfl := harg3.eq_unread hf2; obtain rfl := harg4.eq_unread hf3; obtain
      rfl := harg5.eq_unread hf4; obtain rfl := harg6.eq_unread hf5; obtain rfl := harg7.eq_unread hf6; obtain rfl := harg8.eq_unread hf7; obtain rfl
      := harg9.eq_unread hf8; obtain rfl := harg10.eq_unread hf9; obtain rfl := harg11.eq_unread hf10; obtain rfl := harg12.eq_unread hf11; obtain rfl
      := harg13.eq_unread hf12; obtain rfl := harg14.eq_unread hf13; obtain rfl := harg15.eq_unread hf14; obtain rfl := harg16.eq_unread hf15; obtain
      rfl := harg17.eq_unread hf16; obtain rfl := harg18.eq_unread hf17; obtain rfl := harg19.eq_unread hf18; obtain rfl := harg20.eq_unread hf19;
      obtain rfl := harg21.eq_unread hf20; obtain rfl := harg22.eq_unread hf21; obtain rfl := harg27.eq_unread hfs0; obtain rfl := harg28.eq_unread
      hfs1; obtain rfl := harg29.eq_unread hfs2; obtain rfl := harg30.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    iexists _; iexact HS3

end Cert.Mix

end
-- ==== Proof.MixNext.lean ====
/- The body of the mixer kernel at a later point of the grid, where the scratch buffers hold what the point before left. -/
module

public import proofs.«01_k».proof.Proof.Gen.Kernel.Frame.Runs
public import proofs.«01_k».proof.Proof.FlatNext

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S512x1024 .f32) (harg1 : arg1.IsWhole)
  (arg2 : Memref sig .tc .vmem S9x1x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1024x256 .bf16) (harg5 : arg5.IsWhole)
  (arg6 : Memref sig .tc .vmem S1x1536 .f32) (harg6 : arg6.IsWhole)
  (arg7 : Memref sig .tc .vmem S1x256 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S256x1536 .bf16) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S256x256 .bf16) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S32x2816 .f32) (harg20 : arg20.IsWhole)
  (arg21 : Memref sig .tc .vmem S32x2816 .f32) (harg21 : arg21.IsWhole)
  (arg22 : Memref sig .tc .vmem S176x1024 .f32) (harg22 : arg22.IsWhole)
  (arg23 : Memref sig .tc .vmem S512x1024 .f32) (harg23 : arg23.IsWhole)
  (arg24 : Memref sig .tc .vmem S32x2816 .bf16) (harg24 : arg24.IsWhole)
  (arg25 : Memref sig .tc .vmem S32x2816 .bf16) (harg25 : arg25.IsWhole)
  (arg26 : Memref sig .tc .vmem S176x1024 .bf16) (harg26 : arg26.IsWhole)
  (arg27 : Memref sig .tc .vmem S1x1536 .f32) (harg27 : arg27.IsWhole)
  (arg28 : Memref sig .tc .vmem S1x256 .f32) (harg28 : arg28.IsWhole)
  (arg29 : Memref sig .tc .vmem S2x512 .f32) (harg29 : arg29.IsWhole)
  (arg30 : Memref sig .tc .vmem S4x128x128 .f32) (harg30 : arg30.IsWhole)
  (x0 : Vec F S512x1024 .f32) (x1 : Vec F S9x1x1024 .f32) (x2 : Vec F S1x1024 .f32)
  (x3 : Vec F S1024x3072 .bf16) (x4 : Vec F S1024x256 .bf16) (x5 : Vec F S1x1536 .f32)
  (x6 : Vec F S1x256 .f32) (x7 : Vec F S3x512 .f32) (x8 : Vec F S1x512 .f32) (x9 : Vec F S1x512 .f32)
  (x10 : Vec F S256x1536 .bf16) (x11 : Vec F S1x512 .f32) (x12 : Vec F S1x512 .f32) (x13 : Vec F S1x512 .f32)
  (x14 : Vec F S1x512 .f32) (x15 : Vec F S1x512 .f32) (x16 : Vec F S256x256 .bf16)
  (x17 : Vec F S1024x1024 .bf16) (x18 : Vec F S1x1024 .f32) (x19 : Vec F S32x2816 .f32)
  (x20 : Vec F S32x2816 .f32) (x21 : Vec F S176x1024 .f32)

set_option maxHeartbeats 0 in
/-- mixNext: the stores found by running the body. -/
def mixNext (s : Carry F) (hc : ¬cond0_0 i) :
    { L : Stores F // Runs c i
    arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25
    arg26 harg26 arg27 harg27 arg28 harg28 arg29 harg29 arg30 harg30
        x0 x1 x2 x3 x4 x5 x6 x7 x8 x9 x10 x11 x12 x13 x14 x15 x16 x17 x18 x19 x20 x21
        (holds c arg27 arg28 arg29 arg30 s) L } := by
  let R := flatNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc x0 x1 x2 x3 x4 x5 x6 x7 x8 x9 x10 x11 x12 x13 x14 x15 x16 x17 x18 x19 x20 x21 s.rw s.lo s.cv s.st
  exact ⟨⟨R.1, R.2.1, R.2.2.1, R.2.2.2.1, R.2.2.2.2.1, R.2.2.2.2.2.1, R.2.2.2.2.2.2.1, R.2.2.2.2.2.2.2.1⟩, by
    have h := R.2.2.2.2.2.2.2.2
    intro K
    unfold ins outs holds wrote
    refine BIBase.Entails.trans ?_ (h Set.univ K)
    iintro ⟨⟨H0, H1, H2, H3, H4, H5, H6, H7, H8, H9, H10, H11, H12, H13, H14, H15, H16, H17, H18, H19, H20, H21⟩, ⟨O0, O1, O2, O3⟩, ⟨S0, S1, S2, S3⟩, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [O0]; · iexact O0
    isplitl [O1]; · iexact O1
    isplitl [O2]; · iexact O2
    isplitl [O3]; · iexact O3
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, H17, H18, H19, H20, H21, O0, O1, O2, O3, S0, S1, S2, S3⟩
    iapply Hk
    isplitl [H0 H1 H2 H3 H4 H5 H6 H7 H8 H9 H10 H11 H12 H13 H14 H15 H16 H17 H18 H19 H20 H21]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [O0]; · iexact O0
    isplitl [O1]; · iexact O1
    isplitl [O2]; · iexact O2
    isplitl [O3]; · iexact O3
    isplitl [S0]; · iexact S0
    isplitl [S1]; · iexact S1
    isplitl [S2]; · iexact S2
    iexact S3⟩

end Cert.Mix

end
-- ==== Proof.MixFrame.lean ====
/- The mixer kernel's whole run: what each point of the grid leaves, and that the arguments are left as they were. -/
module

public import proofs.«01_k».proof.Proof.Gen.Kernel.Frame.Runs
public import proofs.«01_k».proof.Proof.MixFirst
public import proofs.«01_k».proof.Proof.MixNext

@[expose] public section

set_option maxRecDepth 16384

noncomputable section

namespace Cert.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What a point of the grid leaves: the four output blocks and the scratch. -/
structure Left (F : FTy → Type) where
  o0 : Vec F S512x1024 .f32
  o1 : Vec F S32x2816 .bf16
  o2 : Vec F S32x2816 .bf16
  o3 : Vec F S176x1024 .bf16
  carry : Carry F

/-- The contents the stores of a run make, when they cover the buffers. -/
def held (L : Stores F) : Left F :=
  ⟨VO0_22.read (Elt F) (VO0_22.writes (Elt F) VO0_22.junk L.o0), VO0_23.read (Elt F) (VO0_23.writes (Elt F) VO0_23.junk L.o1), VO0_24.read (Elt F) (VO0_24.writes (Elt F) VO0_24.junk L.o2), VO0_25.read (Elt F) (VO0_25.writes (Elt F) VO0_25.junk L.o3),
   ⟨VS0_0.read (Elt F) (VS0_0.writes (Elt F) VS0_0.junk L.s0), VS0_1.read (Elt F) (VS0_1.writes (Elt F) VS0_1.junk L.s1), VS0_2.read (Elt F) (VS0_2.writes (Elt F) VS0_2.junk L.s2), VS0_3.read (Elt F) (VS0_3.writes (Elt F) VS0_3.junk L.s3)⟩⟩

/-- The stores cover the eight buffers. -/
structure Covers (L : Stores F) : Prop where
  o0 : ∀ y, ∃ pc ∈ L.o0, y ∈ pc.1.set
  o1 : ∀ y, ∃ pc ∈ L.o1, y ∈ pc.1.set
  o2 : ∀ y, ∃ pc ∈ L.o2, y ∈ pc.1.set
  o3 : ∀ y, ∃ pc ∈ L.o3, y ∈ pc.1.set
  s0 : ∀ y, ∃ pc ∈ L.s0, y ∈ pc.1.set
  s1 : ∀ y, ∃ pc ∈ L.s1, y ∈ pc.1.set
  s2 : ∀ y, ∃ pc ∈ L.s2, y ∈ pc.1.set
  s3 : ∀ y, ∃ pc ∈ L.s3, y ∈ pc.1.set

section Body

variable {c : Dev nD} {i : grid0.Coords}
  {arg1 : Memref sig .tc .vmem S512x1024 .f32} {harg1 : arg1.IsWhole}
  {arg2 : Memref sig .tc .vmem S9x1x1024 .f32} {harg2 : arg2.IsWhole}
  {arg3 : Memref sig .tc .vmem S1x1024 .f32} {harg3 : arg3.IsWhole}
  {arg4 : Memref sig .tc .vmem S1024x3072 .bf16} {harg4 : arg4.IsWhole}
  {arg5 : Memref sig .tc .vmem S1024x256 .bf16} {harg5 : arg5.IsWhole}
  {arg6 : Memref sig .tc .vmem S1x1536 .f32} {harg6 : arg6.IsWhole}
  {arg7 : Memref sig .tc .vmem S1x256 .f32} {harg7 : arg7.IsWhole}
  {arg8 : Memref sig .tc .vmem S3x512 .f32} {harg8 : arg8.IsWhole}
  {arg9 : Memref sig .tc .vmem S1x512 .f32} {harg9 : arg9.IsWhole}
  {arg10 : Memref sig .tc .vmem S1x512 .f32} {harg10 : arg10.IsWhole}
  {arg11 : Memref sig .tc .vmem S256x1536 .bf16} {harg11 : arg11.IsWhole}
  {arg12 : Memref sig .tc .vmem S1x512 .f32} {harg12 : arg12.IsWhole}
  {arg13 : Memref sig .tc .vmem S1x512 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S1x512 .f32} {harg16 : arg16.IsWhole}
  {arg17 : Memref sig .tc .vmem S256x256 .bf16} {harg17 : arg17.IsWhole}
  {arg18 : Memref sig .tc .vmem S1024x1024 .bf16} {harg18 : arg18.IsWhole}
  {arg19 : Memref sig .tc .vmem S1x1024 .f32} {harg19 : arg19.IsWhole}
  {arg20 : Memref sig .tc .vmem S32x2816 .f32} {harg20 : arg20.IsWhole}
  {arg21 : Memref sig .tc .vmem S32x2816 .f32} {harg21 : arg21.IsWhole}
  {arg22 : Memref sig .tc .vmem S176x1024 .f32} {harg22 : arg22.IsWhole}
  {arg23 : Memref sig .tc .vmem S512x1024 .f32} {harg23 : arg23.IsWhole}
  {arg24 : Memref sig .tc .vmem S32x2816 .bf16} {harg24 : arg24.IsWhole}
  {arg25 : Memref sig .tc .vmem S32x2816 .bf16} {harg25 : arg25.IsWhole}
  {arg26 : Memref sig .tc .vmem S176x1024 .bf16} {harg26 : arg26.IsWhole}
  {arg27 : Memref sig .tc .vmem S1x1536 .f32} {harg27 : arg27.IsWhole}
  {arg28 : Memref sig .tc .vmem S1x256 .f32} {harg28 : arg28.IsWhole}
  {arg29 : Memref sig .tc .vmem S2x512 .f32} {harg29 : arg29.IsWhole}
  {arg30 : Memref sig .tc .vmem S4x128x128 .f32} {harg30 : arg30.IsWhole}
  {x0 : Vec F S512x1024 .f32} {x1 : Vec F S9x1x1024 .f32} {x2 : Vec F S1x1024 .f32}
  {x3 : Vec F S1024x3072 .bf16} {x4 : Vec F S1024x256 .bf16} {x5 : Vec F S1x1536 .f32}
  {x6 : Vec F S1x256 .f32} {x7 : Vec F S3x512 .f32} {x8 : Vec F S1x512 .f32} {x9 : Vec F S1x512 .f32}
  {x10 : Vec F S256x1536 .bf16} {x11 : Vec F S1x512 .f32} {x12 : Vec F S1x512 .f32} {x13 : Vec F S1x512 .f32}
  {x14 : Vec F S1x512 .f32} {x15 : Vec F S1x512 .f32} {x16 : Vec F S256x256 .bf16}
  {x17 : Vec F S1024x1024 .bf16} {x18 : Vec F S1x1024 .f32} {x19 : Vec F S32x2816 .f32}
  {x20 : Vec F S32x2816 .f32} {x21 : Vec F S176x1024 .f32}

/-- A run whose stores cover the buffers leaves them at the contents the stores make. -/
theorem Runs.leaves {pre : sProp (World F)} {L : Stores F}
    (h : Runs c i
    arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25
    arg26 harg26 arg27 harg27 arg28 harg28 arg29 harg29 arg30 harg30
        x0 x1 x2 x3 x4 x5 x6 x7 x8 x9 x10 x11 x12 x13 x14 x15 x16 x17 x18 x19 x20 x21
        pre L) (hc : Covers L) (K : PUnit → sProp (World F)) :
    iprop(ins c
        arg1 arg2 arg3 arg4 arg5 arg6 arg7 arg8 arg9 arg10 arg11 arg12 arg13 arg14 arg15 arg16 arg17 arg18
        arg19 arg20 arg21 arg22 x0 x1 x2 x3 x4 x5 x6 x7 x8 x9 x10 x11 x12 x13 x14 x15 x16 x17 x18 x19 x20 x21
      ∗ outs c arg23 arg24 arg25 arg26
      ∗ pre
      ∗ (iprop(ins c
        arg1 arg2 arg3 arg4 arg5 arg6 arg7 arg8 arg9 arg10 arg11 arg12 arg13 arg14 arg15 arg16 arg17 arg18
        arg19 arg20 arg21 arg22 x0 x1 x2 x3 x4 x5 x6 x7 x8 x9 x10 x11 x12 x13 x14 x15 x16 x17 x18 x19 x20 x21
        ∗ owns (c : Thread nD τ) arg23 fullShare (held L).o0 ∗ owns (c : Thread nD τ) arg24 fullShare (held L).o1 ∗ owns (c : Thread nD τ) arg25 fullShare (held L).o2 ∗ owns (c : Thread nD τ) arg26 fullShare (held L).o3
        ∗ holds c arg27 arg28 arg29 arg30 (held L).carry) -∗ K ⟨⟩))
    ⊢ wp frame (wpE (defs₀ (F := F)) Variants.none c none) Set.univ
        (cc0_token_mixing i
    arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 arg24 harg24 arg25 harg25
    arg26 harg26 arg27 harg27 arg28 harg28 arg29 harg29 arg30 harg30) K := by
  iintro ⟨Hi, Ho, Hp, Hk⟩
  iapply (h K)
  isplitl [Hi]; · iexact Hi
  isplitl [Ho]; · iexact Ho
  isplitl [Hp]; · iexact Hp
  unfold wrote
  iintro ⟨Hi, ⟨%e0, H0⟩, ⟨%e1, H1⟩, ⟨%e2, H2⟩, ⟨%e3, H3⟩, ⟨%e4, S0⟩, ⟨%e5, S1⟩, ⟨%e6, S2⟩, ⟨%e7, S3⟩⟩
  iapply Hk
  isplitl [Hi]; · iexact Hi
  isplitl [H0]
  · unfold owns; iexists _; isplitr
    swap; · iexact H0
    ipureintro; show _ = VO0_22.read (Elt F) (VO0_22.writes (Elt F) VO0_22.junk L.o0)
    exact View.read_writes_of_cover _ _ _ _ _ hc.o0
  isplitl [H1]
  · unfold owns; iexists _; isplitr
    swap; · iexact H1
    ipureintro; show _ = VO0_23.read (Elt F) (VO0_23.writes (Elt F) VO0_23.junk L.o1)
    exact View.read_writes_of_cover _ _ _ _ _ hc.o1
  isplitl [H2]
  · unfold owns; iexists _; isplitr
    swap; · iexact H2
    ipureintro; show _ = VO0_24.read (Elt F) (VO0_24.writes (Elt F) VO0_24.junk L.o2)
    exact View.read_writes_of_cover _ _ _ _ _ hc.o2
  isplitl [H3]
  · unfold owns; iexists _; isplitr
    swap; · iexact H3
    ipureintro; show _ = VO0_25.read (Elt F) (VO0_25.writes (Elt F) VO0_25.junk L.o3)
    exact View.read_writes_of_cover _ _ _ _ _ hc.o3
  unfold holds
  isplitl [S0]
  · unfold owns; iexists _; isplitr
    swap; · iexact S0
    ipureintro; show _ = VS0_0.read (Elt F) (VS0_0.writes (Elt F) VS0_0.junk L.s0)
    exact View.read_writes_of_cover _ _ _ _ _ hc.s0
  isplitl [S1]
  · unfold owns; iexists _; isplitr
    swap; · iexact S1
    ipureintro; show _ = VS0_1.read (Elt F) (VS0_1.writes (Elt F) VS0_1.junk L.s1)
    exact View.read_writes_of_cover _ _ _ _ _ hc.s1
  isplitl [S2]
  · unfold owns; iexists _; isplitr
    swap; · iexact S2
    ipureintro; show _ = VS0_2.read (Elt F) (VS0_2.writes (Elt F) VS0_2.junk L.s2)
    exact View.read_writes_of_cover _ _ _ _ _ hc.s2
  unfold owns; iexists _; isplitr
  swap; · iexact S3
  ipureintro; show _ = VS0_3.read (Elt F) (VS0_3.writes (Elt F) VS0_3.junk L.s3)
  exact View.read_writes_of_cover _ _ _ _ _ hc.s3

end Body

variable (m : (ℓ : Loc nD τ sig) → Buf (Elt F) ℓ) (ρ : Dev nD → PrngReg) (c : Dev nD)

/-- The run at the first point. -/
def firstAt (t : Fin cfg0.N) (hc : cond0_0 (grid0.coords t)) :=
  mixFirst c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    (ms0_22 t) (hs0_22 t) (ms0_23 t) (hs0_23 t) (ms0_24 t) (hs0_24 t) (ms0_25 t) (hs0_25 t)
    scM0_0 (Memref.isWhole_whole _) scM0_1 (Memref.isWhole_whole _) scM0_2 (Memref.isWhole_whole _)
    scM0_3 (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)
    (iblk m c 19 t) (iblk m c 20 t) (iblk m c 21 t)
    hc

/-- The run at a later point. -/
def nextAt (t : Fin cfg0.N) (s : Carry F) (hc : ¬cond0_0 (grid0.coords t)) :=
  mixNext c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    (ms0_22 t) (hs0_22 t) (ms0_23 t) (hs0_23 t) (ms0_24 t) (hs0_24 t) (ms0_25 t) (hs0_25 t)
    scM0_0 (Memref.isWhole_whole _) scM0_1 (Memref.isWhole_whole _) scM0_2 (Memref.isWhole_whole _)
    scM0_3 (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)
    (iblk m c 19 t) (iblk m c 20 t) (iblk m c 21 t)
    s hc

theorem first_covers (t : Fin cfg0.N) (hc : cond0_0 (grid0.coords t)) : Covers (firstAt m c t hc).1 :=
  ⟨View.cover_of_tiledL _ S256x1024.size (by sl_kernel_rfl),
    View.cover_of_tiledL _ S32x2816.size (by sl_kernel_rfl),
    View.cover_of_tiledL _ S32x2816.size (by sl_kernel_rfl),
    View.cover_of_tiledL _ S176x1024.size (by sl_kernel_rfl),
    View.cover_of_tiledL _ S1x1536.size (by sl_kernel_rfl),
    View.cover_of_tiledL _ S1x256.size (by sl_kernel_rfl),
    View.cover_of_wholeMem _ (by sl_whole_mem),
    View.cover_of_tiledL _ S4x128x128.size (by sl_kernel_rfl)⟩

theorem next_covers (t : Fin cfg0.N) (s : Carry F) (hc : ¬cond0_0 (grid0.coords t)) : Covers (nextAt m c t s hc).1 :=
  ⟨View.cover_of_tiledL _ S256x1024.size (by sl_kernel_rfl),
    View.cover_of_tiledL _ S32x2816.size (by sl_kernel_rfl),
    View.cover_of_tiledL _ S32x2816.size (by sl_kernel_rfl),
    View.cover_of_tiledL _ S176x1024.size (by sl_kernel_rfl),
    View.cover_of_tiledL _ S1x1536.size (by sl_kernel_rfl),
    View.cover_of_tiledL _ S1x256.size (by sl_kernel_rfl),
    View.cover_of_tiledL _ S1x512.size (by sl_kernel_rfl),
    View.cover_of_tiledL _ S4x128x128.size (by sl_kernel_rfl)⟩

theorem at_zero (t : Fin cfg0.N) (h : t.val = 0) : cond0_0 (grid0.coords t) := (hcond0_0 t).mpr (by omega)

theorem at_succ (t : Fin cfg0.N) (h : t.val ≠ 0) : ¬cond0_0 (grid0.coords t) := fun hc => by
  have h1 := (hcond0_0 t).mp hc
  have h2 : t.val < 32 := lt_of_lt_of_eq t.isLt N_0
  omega

/-- What each point leaves. -/
def leftAt : (n : ℕ) → n < cfg0.N → Left F
  | 0, hn => held (firstAt m c ⟨0, hn⟩ (at_zero ⟨0, hn⟩ rfl)).1
  | n + 1, hn => held (nextAt m c ⟨n + 1, hn⟩ (leftAt n (Nat.lt_of_succ_lt hn)).carry (at_succ ⟨n + 1, hn⟩ (Nat.succ_ne_zero n))).1

theorem leftAt_first (t : Fin cfg0.N) (h : t.val = 0) : leftAt m c t.val t.isLt = held (firstAt m c t (at_zero t h)).1 := by
  obtain ⟨n, hn⟩ := t
  cases n with
  | zero => rfl
  | succ n => exact absurd h (Nat.succ_ne_zero n)

theorem leftAt_next (t : Fin cfg0.N) (h : t.val ≠ 0) :
    leftAt m c t.val t.isLt
      = held (nextAt m c t (leftAt m c (t.val - 1) (by omega)).carry (at_succ t h)).1 := by
  obtain ⟨n, hn⟩ := t
  cases n with
  | zero => exact absurd rfl h
  | succ n => rfl

/-- The scratch between the points: anything before the first, what the point before left after. -/
def between : (n : ℕ) → n ≤ cfg0.N → sProp (World F)
  | 0, _ => Pipeline.ΦA spec0 c
  | n + 1, hn => iprop(holds c scM0_0 scM0_1 scM0_2 scM0_3 (leftAt m c n hn).carry ∗ (∃ r, prngReg c r))

theorem between_pos (n : ℕ) (h : n ≤ cfg0.N) (hz : n ≠ 0) :
    between m c n h = iprop(holds c scM0_0 scM0_1 scM0_2 scM0_3 (leftAt m c (n - 1) (by omega)).carry ∗ (∃ r, prngReg c r)) := by
  cases n with
  | zero => exact absurd rfl hz
  | succ n => rfl

/-- The data of the pipeline. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (leftAt m c t.val t.isLt).o0
    | ⟨23, _⟩ => (leftAt m c t.val t.isLt).o1
    | ⟨24, _⟩ => (leftAt m c t.val t.isLt).o2
    | ⟨25, _⟩ => (leftAt m c t.val t.isLt).o3
    | ⟨_ + 26, h⟩ => absurd h (Nat.not_lt.2 (Nat.le_add_left _ _))
  Φ t := between m c t.val (Nat.le_of_lt_succ t.isLt)
  q _ := fullShare
  owed _ := 0

theorem data_A (c : Dev nD) (w : Fin cfg0.W) : (data m 0 c).A w = V m c (Pipeline.arrRef spec0 w) := by
  dsimp only [data]

theorem data_before (t : Fin cfg0.N) :
    (∀ d, (data m 0 c).before 0 t d = iblk m c 0 t) ∧
    (∀ d, (data m 0 c).before 1 t d = iblk m c 1 t) ∧
    (∀ d, (data m 0 c).before 2 t d = iblk m c 2 t) ∧
    (∀ d, (data m 0 c).before 3 t d = iblk m c 3 t) ∧
    (∀ d, (data m 0 c).before 4 t d = iblk m c 4 t) ∧
    (∀ d, (data m 0 c).before 5 t d = iblk m c 5 t) ∧
    (∀ d, (data m 0 c).before 6 t d = iblk m c 6 t) ∧
    (∀ d, (data m 0 c).before 7 t d = iblk m c 7 t) ∧
    (∀ d, (data m 0 c).before 8 t d = iblk m c 8 t) ∧
    (∀ d, (data m 0 c).before 9 t d = iblk m c 9 t) ∧
    (∀ d, (data m 0 c).before 10 t d = iblk m c 10 t) ∧
    (∀ d, (data m 0 c).before 11 t d = iblk m c 11 t) ∧
    (∀ d, (data m 0 c).before 12 t d = iblk m c 12 t) ∧
    (∀ d, (data m 0 c).before 13 t d = iblk m c 13 t) ∧
    (∀ d, (data m 0 c).before 14 t d = iblk m c 14 t) ∧
    (∀ d, (data m 0 c).before 15 t d = iblk m c 15 t) ∧
    (∀ d, (data m 0 c).before 16 t d = iblk m c 16 t) ∧
    (∀ d, (data m 0 c).before 17 t d = iblk m c 17 t) ∧
    (∀ d, (data m 0 c).before 18 t d = iblk m c 18 t) ∧
    (∀ d, (data m 0 c).before 19 t d = iblk m c 19 t) ∧
    (∀ d, (data m 0 c).before 20 t d = iblk m c 20 t) ∧
    (∀ d, (data m 0 c).before 21 t d = iblk m c 21 t) :=
  ⟨before0_0_of m (data m 0 c) (data_A m c 0) (fun _ => by dsimp only [data]) t,
   before0_1_of m (data m 0 c) (data_A m c 1) (fun _ => by dsimp only [data]) t,
   before0_2_of m (data m 0 c) (data_A m c 2) (fun _ => by dsimp only [data]) t,
   before0_3_of m (data m 0 c) (data_A m c 3) (fun _ => by dsimp only [data]) t,
   before0_4_of m (data m 0 c) (data_A m c 4) (fun _ => by dsimp only [data]) t,
   before0_5_of m (data m 0 c) (data_A m c 5) (fun _ => by dsimp only [data]) t,
   before0_6_of m (data m 0 c) (data_A m c 6) (fun _ => by dsimp only [data]) t,
   before0_7_of m (data m 0 c) (data_A m c 7) (fun _ => by dsimp only [data]) t,
   before0_8_of m (data m 0 c) (data_A m c 8) (fun _ => by dsimp only [data]) t,
   before0_9_of m (data m 0 c) (data_A m c 9) (fun _ => by dsimp only [data]) t,
   before0_10_of m (data m 0 c) (data_A m c 10) (fun _ => by dsimp only [data]) t,
   before0_11_of m (data m 0 c) (data_A m c 11) (fun _ => by dsimp only [data]) t,
   before0_12_of m (data m 0 c) (data_A m c 12) (fun _ => by dsimp only [data]) t,
   before0_13_of m (data m 0 c) (data_A m c 13) (fun _ => by dsimp only [data]) t,
   before0_14_of m (data m 0 c) (data_A m c 14) (fun _ => by dsimp only [data]) t,
   before0_15_of m (data m 0 c) (data_A m c 15) (fun _ => by dsimp only [data]) t,
   before0_16_of m (data m 0 c) (data_A m c 16) (fun _ => by dsimp only [data]) t,
   before0_17_of m (data m 0 c) (data_A m c 17) (fun _ => by dsimp only [data]) t,
   before0_18_of m (data m 0 c) (data_A m c 18) (fun _ => by dsimp only [data]) t,
   before0_19_of m (data m 0 c) (data_A m c 19) (fun _ => by dsimp only [data]) t,
   before0_20_of m (data m 0 c) (data_A m c 20) (fun _ => by dsimp only [data]) t,
   before0_21_of m (data m 0 c) (data_A m c 21) (fun _ => by dsimp only [data]) t⟩

/-- The body's state before and after a point. -/
def enter (t : Fin cfg0.N) : sProp (World F) := iprop((data m 0 c).Φ t.castSucc ∗ (data m 0 c).owesAt () t.castSucc ∗
    (∃ d, owns (c : Thread nD τ) (ms0_0 t) fullShare ((data m 0 c).before 0 t d)) ∗
    (∃ d, owns (c : Thread nD τ) (ms0_1 t) fullShare ((data m 0 c).before 1 t d)) ∗
    (∃ d, owns (c : Thread nD τ) (ms0_2 t) fullShare ((data m 0 c).before 2 t d)) ∗
    (∃ d, owns (c : Thread nD τ) (ms0_3 t) fullShare ((data m 0 c).before 3 t d)) ∗
    (∃ d, owns (c : Thread nD τ) (ms0_4 t) fullShare ((data m 0 c).before 4 t d)) ∗
    (∃ d, owns (c : Thread nD τ) (ms0_5 t) fullShare ((data m 0 c).before 5 t d)) ∗
    (∃ d, owns (c : Thread nD τ) (ms0_6 t) fullShare ((data m 0 c).before 6 t d)) ∗
    (∃ d, owns (c : Thread nD τ) (ms0_7 t) fullShare ((data m 0 c).before 7 t d)) ∗
    (∃ d, owns (c : Thread nD τ) (ms0_8 t) fullShare ((data m 0 c).before 8 t d)) ∗
    (∃ d, owns (c : Thread nD τ) (ms0_9 t) fullShare ((data m 0 c).before 9 t d)) ∗
    (∃ d, owns (c : Thread nD τ) (ms0_10 t) fullShare ((data m 0 c).before 10 t d)) ∗
    (∃ d, owns (c : Thread nD τ) (ms0_11 t) fullShare ((data m 0 c).before 11 t d)) ∗
    (∃ d, owns (c : Thread nD τ) (ms0_12 t) fullShare ((data m 0 c).before 12 t d)) ∗
    (∃ d, owns (c : Thread nD τ) (ms0_13 t) fullShare ((data m 0 c).before 13 t d)) ∗
    (∃ d, owns (c : Thread nD τ) (ms0_14 t) fullShare ((data m 0 c).before 14 t d)) ∗
    (∃ d, owns (c : Thread nD τ) (ms0_15 t) fullShare ((data m 0 c).before 15 t d)) ∗
    (∃ d, owns (c : Thread nD τ) (ms0_16 t) fullShare ((data m 0 c).before 16 t d)) ∗
    (∃ d, owns (c : Thread nD τ) (ms0_17 t) fullShare ((data m 0 c).before 17 t d)) ∗
    (∃ d, owns (c : Thread nD τ) (ms0_18 t) fullShare ((data m 0 c).before 18 t d)) ∗
    (∃ d, owns (c : Thread nD τ) (ms0_19 t) fullShare ((data m 0 c).before 19 t d)) ∗
    (∃ d, owns (c : Thread nD τ) (ms0_20 t) fullShare ((data m 0 c).before 20 t d)) ∗
    (∃ d, owns (c : Thread nD τ) (ms0_21 t) fullShare ((data m 0 c).before 21 t d)) ∗
    (∃ d, owns (c : Thread nD τ) (ms0_22 t) fullShare ((data m 0 c).before 22 t d)) ∗
    (∃ d, owns (c : Thread nD τ) (ms0_23 t) fullShare ((data m 0 c).before 23 t d)) ∗
    (∃ d, owns (c : Thread nD τ) (ms0_24 t) fullShare ((data m 0 c).before 24 t d)) ∗
    (∃ d, owns (c : Thread nD τ) (ms0_25 t) fullShare ((data m 0 c).before 25 t d)))

def leave (t : Fin cfg0.N) : sProp (World F) := iprop((data m 0 c).Φ t.succ ∗ (data m 0 c).owesAt () t.succ ∗
    owns (c : Thread nD τ) (ms0_0 t) fullShare ((data m 0 c).after 0 t) ∗
    owns (c : Thread nD τ) (ms0_1 t) fullShare ((data m 0 c).after 1 t) ∗
    owns (c : Thread nD τ) (ms0_2 t) fullShare ((data m 0 c).after 2 t) ∗
    owns (c : Thread nD τ) (ms0_3 t) fullShare ((data m 0 c).after 3 t) ∗
    owns (c : Thread nD τ) (ms0_4 t) fullShare ((data m 0 c).after 4 t) ∗
    owns (c : Thread nD τ) (ms0_5 t) fullShare ((data m 0 c).after 5 t) ∗
    owns (c : Thread nD τ) (ms0_6 t) fullShare ((data m 0 c).after 6 t) ∗
    owns (c : Thread nD τ) (ms0_7 t) fullShare ((data m 0 c).after 7 t) ∗
    owns (c : Thread nD τ) (ms0_8 t) fullShare ((data m 0 c).after 8 t) ∗
    owns (c : Thread nD τ) (ms0_9 t) fullShare ((data m 0 c).after 9 t) ∗
    owns (c : Thread nD τ) (ms0_10 t) fullShare ((data m 0 c).after 10 t) ∗
    owns (c : Thread nD τ) (ms0_11 t) fullShare ((data m 0 c).after 11 t) ∗
    owns (c : Thread nD τ) (ms0_12 t) fullShare ((data m 0 c).after 12 t) ∗
    owns (c : Thread nD τ) (ms0_13 t) fullShare ((data m 0 c).after 13 t) ∗
    owns (c : Thread nD τ) (ms0_14 t) fullShare ((data m 0 c).after 14 t) ∗
    owns (c : Thread nD τ) (ms0_15 t) fullShare ((data m 0 c).after 15 t) ∗
    owns (c : Thread nD τ) (ms0_16 t) fullShare ((data m 0 c).after 16 t) ∗
    owns (c : Thread nD τ) (ms0_17 t) fullShare ((data m 0 c).after 17 t) ∗
    owns (c : Thread nD τ) (ms0_18 t) fullShare ((data m 0 c).after 18 t) ∗
    owns (c : Thread nD τ) (ms0_19 t) fullShare ((data m 0 c).after 19 t) ∗
    owns (c : Thread nD τ) (ms0_20 t) fullShare ((data m 0 c).after 20 t) ∗
    owns (c : Thread nD τ) (ms0_21 t) fullShare ((data m 0 c).after 21 t) ∗
    owns (c : Thread nD τ) (ms0_22 t) fullShare ((data m 0 c).after 22 t) ∗
    owns (c : Thread nD τ) (ms0_23 t) fullShare ((data m 0 c).after 23 t) ∗
    owns (c : Thread nD τ) (ms0_24 t) fullShare ((data m 0 c).after 24 t) ∗
    owns (c : Thread nD τ) (ms0_25 t) fullShare ((data m 0 c).after 25 t))

theorem body_of (t : Fin cfg0.N) (pre : sProp (World F)) (L : Stores F)
    (hr : Runs c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    (ms0_22 t) (hs0_22 t) (ms0_23 t) (hs0_23 t) (ms0_24 t) (hs0_24 t) (ms0_25 t) (hs0_25 t)
    scM0_0 (Memref.isWhole_whole _) scM0_1 (Memref.isWhole_whole _) scM0_2 (Memref.isWhole_whole _)
    scM0_3 (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)
    (iblk m c 19 t) (iblk m c 20 t) (iblk m c 21 t)
      pre L) (hcov : Covers L) (hL : leftAt m c t.val t.isLt = held L)
    (hpre : between m c t.val (Nat.le_of_lt t.isLt) ⊢ iprop(pre ∗ (∃ r, prngReg c r))) :
    enter m c t ⊢ wp frame (wpE (defs₀ (F := F)) Variants.none c none) Set.univ (bodyAt0 t) (fun _ => leave m c t) := by
  obtain ⟨b0, b1, b2, b3, b4, b5, b6, b7, b8, b9, b10, b11, b12, b13, b14, b15, b16, b17, b18, b19, b20, b21⟩ := data_before m c t
  unfold enter leave bodyAt0
  simp only [b0, b1, b2, b3, b4, b5, b6, b7, b8, b9, b10, b11, b12, b13, b14, b15, b16, b17, b18, b19, b20, b21]
  rw [show (data m 0 c).owesAt () t.succ = (data m 0 c).owesAt () t.castSucc from rfl,
    show (data m 0 c).Φ t.succ = iprop(holds c scM0_0 scM0_1 scM0_2 scM0_3 (leftAt m c t.val t.isLt).carry ∗ (∃ r, prngReg c r)) from rfl,
    show (data m 0 c).Φ t.castSucc = between m c t.val (Nat.le_of_lt t.isLt) from rfl]
  dsimp only [data]
  rw [hL]
  refine (sep_mono hpre .rfl).trans ?_
  iintro ⟨⟨Hp, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩,
    ⟨%d17, H17⟩, ⟨%d18, H18⟩, ⟨%d19, H19⟩, ⟨%d20, H20⟩, ⟨%d21, H21⟩, ⟨%d22, H22⟩, ⟨%d23, H23⟩, ⟨%d24, H24⟩,
    ⟨%d25, H25⟩⟩
  iapply (hr.leaves hcov _)
  isplitl [H0 H1 H2 H3 H4 H5 H6 H7 H8 H9 H10 H11 H12 H13 H14 H15 H16 H17 H18 H19 H20 H21]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22 H23 H24 H25]
  · unfold outs
    isplitl [H22]; · iexists _; iexact H22
    isplitl [H23]; · iexists _; iexact H23
    isplitl [H24]; · iexists _; iexact H24
    iexists _; iexact H25
  isplitl [Hp]; · iexact Hp
  unfold ins
  iintro ⟨⟨H0, H1, H2, H3, H4, H5, H6, H7, H8, H9, H10, H11, H12, H13, H14, H15, H16, H17, H18, H19, H20, H21⟩, H22, H23, H24, H25, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
theorem body (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  have h : enter m c t ⊢ wp frame (wpE (defs₀ (F := F)) Variants.none c none) Set.univ (bodyAt0 t) (fun _ => leave m c t) := by
    by_cases hz : t.val = 0
    · refine body_of m c t _ _ (firstAt m c t (at_zero t hz)).2 (first_covers m c t _) (leftAt_first m c t hz) ?_
      have e : between m c t.val (Nat.le_of_lt t.isLt) = Pipeline.ΦA spec0 c := by
        obtain ⟨n, hn⟩ := t
        cases n with
        | zero => rfl
        | succ n => exact absurd hz (Nat.succ_ne_zero n)
      rw [e, PhiA0_eq]
      rfl
    · refine body_of m c t _ _ (nextAt m c t (leftAt m c (t.val - 1) (by omega)).carry (at_succ t hz)).2 (next_covers m c t _ _)
        (leftAt_next m c t hz) ?_
      rw [between_pos m c t.val _ hz]
  exact triple_restated h rfl .rfl fun _ => .rfl

theorem enters (c : Dev nD) : Pipeline.ΦA spec0 c ⊢ (data m 0 c).Φ 0 := by
  rw [show (data m 0 c).Φ 0 = Pipeline.ΦA spec0 c from rfl]

theorem leaves (c : Dev nD) : (data m 0 c).Φ (Fin.last cfg0.N) ⊢ Pipeline.ΦA spec0 c := by
  have hN : cfg0.N = 32 := N_0
  rw [show (data m 0 c).Φ (Fin.last cfg0.N) = between m c (Fin.last cfg0.N).val (Nat.le_of_lt_succ (Fin.last cfg0.N).isLt) from rfl,
    between_pos m c _ _ (by rw [Fin.val_last]; omega), PhiA0_eq]
  unfold holds
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The run: the pipeline's post, and no semaphore left raised. -/
theorem run_all : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body m c).loose) (hshare := fun c => (data m 0 c).share_full fun _ => rfl)
    (howed := fun _ _ => rfl) (V := V m) (hmain := hmain m Variants.none) (hA := data_A m) (hin := enters m) (hout := leaves m)

/-- The program runs, leaves its arguments, and raises no semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (frame_of m ρ (data m) (data_A m) ((θ_run defs _ _).mono (fun _ h => h.1) (run_all m ρ)))
    ((θ_run defs _ _).mono (fun _ h => h.2) (run_all m ρ))

end Cert.Mix

end
-- ==== Proof.MixIdeal.lean ====
/- The mixer kernel's idealized program is the same program: its frame. -/
module

public import proofs.«01_k».proof.Proof.Gen.KernelIdeal.Frame.Runs
public import proofs.«01_k».proof.Proof.MixFrame
import Idealize.ShloMosaic.Lib.Tactic.ProgEq

@[expose] public section

set_option maxRecDepth 16384

noncomputable section

namespace Cert.MixIdeal

open Idealize.ShloMosaic Idealize.ShloMosaic.TcCoe Idealize.SL.Sem
open scoped Idealize.ShloMosaic.ProgEq

variable {F : FTy → Type} [FloatOps F]

set_option maxHeartbeats 40000000 in
theorem defs_eq : Cert.KernelIdeal.defs (F := F) = Cert.Kernel.defs (F := F) := by sl_kernel_rfl

set_option maxHeartbeats 40000000 in
theorem main_eq : Cert.KernelIdeal.main (F := F) = Cert.Kernel.main (F := F) := by sl_kernel_rfl

section

open Cert.KernelIdeal

variable (m : (ℓ : Loc nD τ sig) → Buf (Elt F) ℓ) (ρ : Dev nD → PrngReg)

set_option maxHeartbeats 40000000 in
/-- The program runs, leaves its arguments, and raises no semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) := by
  rw [defs_eq, main_eq]
  exact Cert.Mix.frame m ρ

end

end Cert.MixIdeal

end
-- ==== Proof.MixRefFrame.lean ====
module

public import proofs.«01_k».proof.Proof.Gen.ReferenceIdeal.Run

/-!
The mixer's reference leaves its arguments as they were: no operation before, inside or after its loop writes one.
-/

@[expose] public section

set_option maxRecDepth 16384

noncomputable section

namespace Cert.MixRef

open Idealize.ShloMosaic Idealize.ShloMosaic.TcCoe Idealize.SL.Sem Idealize.ShloMosaic.StableHlo Cert.ReferenceIdeal Cert.ReferenceIdeal.Gen Cert.ReferenceIdeal.Value

variable {F : FTy → Type} [FloatOps F]

/-- What the operations after the loop write, in order. -/
abbrev lastWrites : List (Ref sig .tc) := [main_cst_18, main_v125, main_v126, main_cst_19, main_v127, main_v128, main_v129, main_v130, main_v131, main_cst_20, main_v132, main_v133, main_cst_21, main_v134, main_v135, main_v136, main_v137, main_cst_22, main_v138, main_v139, main_v140, main_v141, main_v142, main_v143, main_v144, main_v145, main_v146, main_v147, main_v148, main_v149, main_v150, main_v151, main_v152, main_v153, main_cst_23, main_v154, main_v155, main_v156, main_v157, main_v158, main_v159, main_v160, main_v161, main_v162, main_v163, main_v164, main_v165, main_cst_24, main_v166, main_v167, main_cst_25, main_v168, main_v169, main_cst_26, main_v170, main_v171, main_v172, main_v173, main_v174, main_v175, main_v176, main_v177, main_v178, main_v179, main_v180, main_v181, main_v182, main_v183]
theorem last_writes : (hostOps0_11 : List (HloOp τ sig (Elt F))).Forall fun op => op.writes ⊆ (lastWrites.map (Proc.devRef (τ := τ) .tc)).toFinset :=
  StableHlo.forall_writes_sub_of_map rfl

/-- The lists of the buffers written before the loop, in a trip, and after the loop. -/
def written : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, while0Ops0_W, while0Ops0_1_W, while0Ops0_2_W, while0Ops0_3_W, while0Ops0_4_W, while0Ops0_5_W, while0Ops0_6_W, while0Ops0_7_W, while0Ops0_8_W, condOps_W, lastWrites]

theorem pre_keeps (V : Valuation τ sig (Elt F)) {b : Ref sig .tc} (h : ∀ W ∈ written, b ∉ W) : afterL preI V (Proc.devRef .tc b) = V (Proc.devRef .tc b) := by
  simp only [afterL_cons, afterL_nil]
  rw [after_of_writes_sub hostOps0_10 _ hostOps0_10_writes (h _ (.tail _ (.tail _ (.tail _ (.tail _ (.tail _ (.tail _ (.tail _ (.tail _ (.tail _ (.tail _ (.head _)))))))))))), after_of_writes_sub hostOps0_9 _ hostOps0_9_writes (h _ (.tail _ (.tail _ (.tail _ (.tail _ (.tail _ (.tail _ (.tail _ (.tail _ (.tail _ (.head _))))))))))), after_of_writes_sub hostOps0_8 _ hostOps0_8_writes (h _ (.tail _ (.tail _ (.tail _ (.tail _ (.tail _ (.tail _ (.tail _ (.tail _ (.head _)))))))))), after_of_writes_sub hostOps0_7 _ hostOps0_7_writes (h _ (.tail _ (.tail _ (.tail _ (.tail _ (.tail _ (.tail _ (.tail _ (.head _))))))))), after_of_writes_sub hostOps0_6 _ hostOps0_6_writes (h _ (.tail _ (.tail _ (.tail _ (.tail _ (.tail _ (.tail _ (.head _)))))))), after_of_writes_sub hostOps0_5 _ hostOps0_5_writes (h _ (.tail _ (.tail _ (.tail _ (.tail _ (.tail _ (.head _))))))), after_of_writes_sub hostOps0_4 _ hostOps0_4_writes (h _ (.tail _ (.tail _ (.tail _ (.tail _ (.head _)))))), after_of_writes_sub hostOps0_3 _ hostOps0_3_writes (h _ (.tail _ (.tail _ (.tail _ (.head _))))), after_of_writes_sub hostOps0_2 _ hostOps0_2_writes (h _ (.tail _ (.tail _ (.head _)))), after_of_writes_sub hostOps0_1 _ hostOps0_1_writes (h _ (.tail _ (.head _))), after_of_writes_sub hostOps0 _ hostOps0_writes (h _ (.head _))]

theorem body_keeps (V : Valuation τ sig (Elt F)) {b : Ref sig .tc} (h : ∀ W ∈ written, b ∉ W) : afterL bodyI V (Proc.devRef .tc b) = V (Proc.devRef .tc b) := by
  simp only [afterL_cons, afterL_nil]
  rw [after_of_writes_sub while0Ops0_8 _ while0Ops0_8_writes (h _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), after_of_writes_sub while0Ops0_7 _ while0Ops0_7_writes (h _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), after_of_writes_sub while0Ops0_6 _ while0Ops0_6_writes (h _ (.tail _ (.tail _ (.tail _ (.tail _ (.tail _ (.tail _ (.tail _ (.tail _ (.tail _ (.tail _ (.tail _ (.tail _ (.tail _ (.tail _ (.tail _ (.tail _ (.tail _ (.head _))))))))))))))))))), after_of_writes_sub while0Ops0_5 _ while0Ops0_5_writes (h _ (.tail _ (.tail _ (.tail _ (.tail _ (.tail _ (.tail _ (.tail _ (.tail _ (.tail _ (.tail _ (.tail _ (.tail _ (.tail _ (.tail _ (.tail _ (.tail _ (.head _)))))))))))))))))), after_of_writes_sub while0Ops0_4 _ while0Ops0_4_writes (h _ (.tail _ (.tail _ (.tail _ (.tail _ (.tail _ (.tail _ (.tail _ (.tail _ (.tail _ (.tail _ (.tail _ (.tail _ (.tail _ (.tail _ (.tail _ (.head _))))))))))))))))), after_of_writes_sub while0Ops0_3 _ while0Ops0_3_writes (h _ (.tail _ (.tail _ (.tail _ (.tail _ (.tail _ (.tail _ (.tail _ (.tail _ (.tail _ (.tail _ (.tail _ (.tail _ (.tail _ (.tail _ (.head _)))))))))))))))), after_of_writes_sub while0Ops0_2 _ while0Ops0_2_writes (h _ (.tail _ (.tail _ (.tail _ (.tail _ (.tail _ (.tail _ (.tail _ (.tail _ (.tail _ (.tail _ (.tail _ (.tail _ (.tail _ (.head _))))))))))))))), after_of_writes_sub while0Ops0_1 _ while0Ops0_1_writes (h _ (.tail _ (.tail _ (.tail _ (.tail _ (.tail _ (.tail _ (.tail _ (.tail _ (.tail _ (.tail _ (.tail _ (.tail _ (.head _)))))))))))))), after_of_writes_sub while0Ops0 _ while0Ops0_writes (h _ (.tail _ (.tail _ (.tail _ (.tail _ (.tail _ (.tail _ (.tail _ (.tail _ (.tail _ (.tail _ (.tail _ (.head _)))))))))))))]

theorem cond_keeps' (V : Valuation τ sig (Elt F)) {b : Ref sig .tc} (h : ∀ W ∈ written, b ∉ W) : after condOps V (Proc.devRef .tc b) = V (Proc.devRef .tc b) := by
  exact after_of_writes_sub condOps _ condOps_writes (h _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem post_keeps (V : Valuation τ sig (Elt F)) {b : Ref sig .tc} (h : ∀ W ∈ written, b ∉ W) : afterL postI V (Proc.devRef .tc b) = V (Proc.devRef .tc b) := by
  simp only [afterL_cons, afterL_nil]
  exact after_of_writes_sub hostOps0_11 _ last_writes (h _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

variable (m : (ℓ : Loc nD τ sig) → Buf (Elt F) ℓ) (ρ : Dev nD → PrngReg)

theorem trips_keep (c : Dev nD) {b : Ref sig .tc} (h : ∀ W ∈ written, b ∉ W) : ∀ k, atK m k c (Proc.devRef .tc b) = m ((c.tc : Thread nD τ).loc b)
  | 0 => (pre_keeps _ h).trans rfl
  | k + 1 => (body_keeps _ h).trans ((cond_keeps' _ h).trans (trips_keep c h k))

/-- A buffer no operation writes ends as it began. -/
theorem end_keeps (c : Dev nD) {b : Ref sig .tc} (h : ∀ W ∈ written, b ∉ W) :
    finalContents condOps preI bodyI postI 16384 m c (Proc.devRef .tc b) = m ((c.tc : Thread nD τ).loc b) :=
  (post_keeps _ h).trans ((cond_keeps' _ h).trans (trips_keep m c h 16384))

/-- The reference runs and leaves its arguments as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono (fun r h c => by
    have k : ∀ b : Ref sig .tc, (Proc.devRef .tc b : DevRef τ sig).isScoped = false → (∀ W ∈ written, b ∉ W) → r.2.mem ((c.tc : Thread nD τ).loc b) = m ((c.tc : Thread nD τ).loc b) :=
      fun b h1 h2 => (h c b h1).trans (end_keeps m c h2)
    exact ⟨k main_arg0 rfl (by decide +kernel), k main_arg1 rfl (by decide +kernel), k main_arg2 rfl (by decide +kernel), k main_arg3 rfl (by decide +kernel), k main_arg4 rfl (by decide +kernel), k main_arg5 rfl (by decide +kernel), k main_arg6 rfl (by decide +kernel), k main_arg7 rfl (by decide +kernel), k main_arg8 rfl (by decide +kernel), k main_arg9 rfl (by decide +kernel), k main_arg10 rfl (by decide +kernel), k main_arg11 rfl (by decide +kernel), k main_arg12 rfl (by decide +kernel), k main_arg13 rfl (by decide +kernel), k main_arg14 rfl (by decide +kernel), k main_arg15 rfl (by decide +kernel), k main_arg16 rfl (by decide +kernel), k main_arg17 rfl (by decide +kernel), k main_arg18 rfl (by decide +kernel), k main_arg19 rfl (by decide +kernel), k main_arg20 rfl (by decide +kernel)⟩) (run_fold m ρ)

end Cert.MixRef

end
-- ==== Proof.lean ====
/- The claims about the programs of this proof, assembled: the mathematics is in the modules imported here. -/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.FfnValue
public import proofs.«01_k».proof.Proof.Gen.Kernel
public import proofs.«01_k».proof.Proof.Gen.KernelIdeal
public import proofs.«01_k».proof.Proof.Gen.ReferenceIdeal
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.AdaValue
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.FirstValue
public import proofs.«01_k».proof.Proof.Gen.Around
public import proofs.«01_k».proof.Proof.Gen.Around.Frame
public import proofs.«01_k».proof.Proof.Gen.AroundIdeal
public import proofs.«01_k».proof.Proof.Gen.AroundIdeal.Frame
public import proofs.«01_k».proof.Proof.Gen.AroundRefIdeal
public import proofs.«01_k».proof.Proof.Gen.AroundRefIdeal.Run
public import proofs.«01_k».proof.Proof.AroundValue
public import proofs.«01_k».proof.Proof.AroundRefRows
public import proofs.«01_k».proof.Proof.MixFrame
public import proofs.«01_k».proof.Proof.MixIdeal
public import proofs.«01_k».proof.Proof.MixRefFrame
public import Idealize.ShloMosaic.Adequacy
public import Idealize.ShloMosaic.Init
public import Idealize.ShloMosaic.Lib.Quiescent

@[expose] public section

noncomputable section

namespace Cert.Proof

open Idealize.ShloMosaic Idealize.SL.Sem

/-- The value claim of the feed-forward layer. -/
theorem ffn_value [Cert.FfnIdeal.Facts] [Cert.FfnRefIdeal.Facts] : Cert.algebraic_FfnIdeal_FfnRefIdeal := by
  pair_intro
  · run_from Cert.FfnIdeal.Value.run_blocks m g
  · run_from Cert.FfnRefIdeal.Value.run m' g'
    obtain ⟨h0, h1, h2, h3, h4, h5, h6⟩ := hagree c
    rw [Cert.FfnValue.final m c]
    funext i
    obtain ⟨r, l, rfl⟩ : ∃ (r : Fin 16384) (l : Fin 1024), i = (ix2 r l : Cert.FfnRefIdeal.S16384x1024.Idx) :=
      ⟨i 0, i 1, by funext a; fin_cases a <;> rfl⟩
    exact Cert.FfnValue.ref_row m' c _ _ _ _ _ _ _ h0 h1 h2 h3 h4 h5 h6 r l

/-- The value claim of the conditioning rows. -/
theorem ada_value [Cert.AdaIdeal.Facts] [Cert.AdaRefIdeal.Facts] : Cert.algebraic_AdaIdeal_AdaRefIdeal := by
  pair_intro
  · run_from Cert.AdaIdeal.Value.run_blocks m g
  · run_from Cert.AdaRefIdeal.Value.run m' g'
    rw [Cert.AdaValue.final m c]
    funext i
    obtain ⟨a, k, rfl⟩ : ∃ (a : Fin 9) (k : Fin 1024), i = (ix3 a 0 k : Cert.AdaRefIdeal.S9x1x1024.Idx) :=
      ⟨i 0, i 2, by funext b; fin_cases b; exacts [rfl, Subsingleton.elim (α := Fin 1) _ _, rfl]⟩
    exact Cert.AdaValue.ref_entry _ _ _ a k

/-- The value claim of the first feed-forward call, with the mixer's weights which it narrows beside its rows. -/
theorem first_value [Cert.FirstIdeal.Facts] [Cert.FirstRefIdeal.Facts] : Cert.algebraic_FirstIdeal_FirstRefIdeal := by
  pair_intro
  · run_from Cert.FirstIdeal.Value.run_blocks m g
  · run_from Cert.FirstRefIdeal.Value.run m' g'
    · obtain ⟨h0, h1, h2, h3, h4, h5, h6, -⟩ := hagree c
      rw [Cert.FirstValue.final m c]
      funext i
      obtain ⟨r, l, rfl⟩ : ∃ (r : Fin 16384) (l : Fin 1024), i = (ix2 r l : Cert.FirstRefIdeal.S16384x1024.Idx) :=
        ⟨i 0, i 1, by funext a; fin_cases a <;> rfl⟩
      exact Cert.FirstValue.ref_row m' c _ _ _ _ _ _ _ h0 h1 h2 h3 h4 h5 h6 r l
    · rw [Cert.FirstValue.final_in m c]
      funext i
      obtain ⟨r, l, rfl⟩ : ∃ (r : Fin 1024) (l : Fin 3072), i = (ix2 r l : Cert.FirstRefIdeal.S1024x3072.Idx) :=
        ⟨i 0, i 1, by funext a; fin_cases a <;> rfl⟩
      exact Cert.FirstValue.ref_in _ r l
    · rw [Cert.FirstValue.final_out m c]
      funext i
      obtain ⟨r, l, rfl⟩ : ∃ (r : Fin 1024) (l : Fin 1024), i = (ix2 r l : Cert.FirstRefIdeal.S1024x1024.Idx) :=
        ⟨i 0, i 1, by funext a; fin_cases a <;> rfl⟩
      rfl

/-- The value claim of the three calls outside the token mixer, joined. -/
theorem around_value [Cert.AroundIdeal.Facts] [Cert.AroundRefIdeal.Facts] : Cert.algebraic_AroundIdeal_AroundRefIdeal := by
  pair_intro
  · run_from Cert.AroundValue.run m g
  · run_from Cert.AroundRefIdeal.Value.run m' g'
    · obtain ⟨h0, h1, h2, h3, h4, h5, h6, h7, h8, -⟩ := hagree c
      funext i
      obtain ⟨r, l, rfl⟩ : ∃ (r : Fin 16384) (l : Fin 1024), i = (ix2 r l : Cert.AroundRefIdeal.S16384x1024.Idx) :=
        ⟨i 0, i 1, by funext a; fin_cases a <;> rfl⟩
      exact Cert.AroundValue.ref_first m' c _ _ _ _ _ _ _ _ _ h1 h2 h3 h0 h4 h5 h6 h7 h8 r l
    · funext i
      obtain ⟨r, l, rfl⟩ : ∃ (r : Fin 1024) (l : Fin 3072), i = (ix2 r l : Cert.AroundRefIdeal.S1024x3072.Idx) :=
        ⟨i 0, i 1, by funext a; fin_cases a <;> rfl⟩
      exact Cert.FirstValue.ref_in _ r l
    · funext i
      obtain ⟨r, l, rfl⟩ : ∃ (r : Fin 1024) (l : Fin 1024), i = (ix2 r l : Cert.AroundRefIdeal.S1024x1024.Idx) :=
        ⟨i 0, i 1, by funext a; fin_cases a <;> rfl⟩
      rfl
    · obtain ⟨-, h1, h2, h3, -, -, -, -, -, -, -, h11, h12, h13, h14, h15, h16⟩ := hagree c
      funext i
      obtain ⟨r, l, rfl⟩ : ∃ (r : Fin 16384) (l : Fin 1024), i = (ix2 r l : Cert.AroundRefIdeal.S16384x1024.Idx) :=
        ⟨i 0, i 1, by funext a; fin_cases a <;> rfl⟩
      exact Cert.AroundValue.ref_last m' c _ _ _ _ _ _ _ _ _ h1 h2 h3 h11 h12 h13 h14 h15 h16 r l

theorem claim : Cert.Claim := ⟨Cert.Ffn.Gen.facts, Cert.FfnIdeal.Gen.facts, Cert.FfnRefIdeal.Gen.facts,
  Cert.Kernel.Gen.facts, Cert.KernelIdeal.Gen.facts, Cert.ReferenceIdeal.Gen.facts,
  Cert.Ada.Gen.facts, Cert.AdaIdeal.Gen.facts, Cert.AdaRefIdeal.Gen.facts,
  Cert.First.Gen.facts, Cert.FirstIdeal.Gen.facts, Cert.FirstRefIdeal.Gen.facts,
  Cert.Around.Gen.facts, Cert.AroundIdeal.Gen.facts, Cert.AroundRefIdeal.Gen.facts,
  fun m ρ _ => Cert.Ffn.Gen.frame m ρ, fun m ρ _ => Cert.FfnIdeal.Gen.frame m ρ,
  fun m ρ _ => (θ_run _ _ _).mono (fun r h => ⟨fun c => (h c).2, sem_eq_zero_of_no_sems (by decide) r.2⟩) (Cert.FfnRefIdeal.Value.run m ρ),
  fun m ρ _ => Cert.Mix.frame m ρ, fun m ρ _ => Cert.MixIdeal.frame m ρ,
  fun m ρ _ => (θ_run _ _ _).mono (fun r h => ⟨h, sem_eq_zero_of_no_sems (by decide) r.2⟩) (Cert.MixRef.frame m ρ),
  fun m ρ _ => Cert.Ada.Gen.frame m ρ, fun m ρ _ => Cert.AdaIdeal.Gen.frame m ρ,
  fun m ρ _ => (θ_run _ _ _).mono (fun r h => ⟨fun c => (h c).2, sem_eq_zero_of_no_sems (by decide) r.2⟩) (Cert.AdaRefIdeal.Value.run m ρ),
  fun m ρ _ => Cert.First.Gen.frame m ρ, fun m ρ _ => Cert.FirstIdeal.Gen.frame m ρ,
  fun m ρ _ => (θ_run _ _ _).mono (fun r h => ⟨fun c => (h c).2.2.2, sem_eq_zero_of_no_sems (by decide) r.2⟩) (Cert.FirstRefIdeal.Value.run m ρ),
  fun m ρ _ => Cert.Around.Gen.frame m ρ, fun m ρ _ => Cert.AroundIdeal.Gen.frame m ρ,
  fun m ρ _ => (θ_run _ _ _).mono (fun r h => ⟨fun c => (h c).2.2.2.2, sem_eq_zero_of_no_sems (by decide) r.2⟩) (Cert.AroundRefIdeal.Value.run m ρ),
  trivial, ffn_value, trivial, trivial, ada_value, trivial, first_value, trivial, around_value⟩

end Cert.Proof

end
